-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S32768x1x28x28 : Shape := ⟨4, ![32768, 1, 28, 28]⟩
abbrev S8x1x3x3 : Shape := ⟨4, ![8, 1, 3, 3]⟩
abbrev S8 : Shape := ⟨1, ![8]⟩
abbrev S10x392 : Shape := ⟨2, ![10, 392]⟩
abbrev S10 : Shape := ⟨1, ![10]⟩
abbrev S_ : Shape := ⟨0, ![]⟩

class Facts : Prop where
  bcast_S_S32768x1x28x28 : S_.BroadcastsInDim S32768x1x28x28 (![] : Fin 0 → Fin S32768x1x28x28.rank)
  reducesTo_S32768x1x28x28_S_d0_1_2_3 : S32768x1x28x28.ReducesTo [0, 1, 2, 3] S_
  h_S_ : 0 < S_.numel
  bcast_S_S8x1x3x3 : S_.BroadcastsInDim S8x1x3x3 (![] : Fin 0 → Fin S8x1x3x3.rank)
  reducesTo_S8x1x3x3_S_d0_1_2_3 : S8x1x3x3.ReducesTo [0, 1, 2, 3] S_
  bcast_S_S8 : S_.BroadcastsInDim S8 (![] : Fin 0 → Fin S8.rank)
  reducesTo_S8_S_d0 : S8.ReducesTo [0] S_

variable [Facts]

def fn_part1 {F : FTy → Type} [FloatOps F] (main_arg3 : FVec F S8 .f32) (main_v13 : IVec S_ 1) (main_v15 : IVec S8 1) (main_c_5 : IVec S_ 1) : IVec S_ 1 :=
  let main_v16 : IVec S_ 1 := (fun x v => Host.reduce IntOp.andi x v reducesTo_S8_S_d0 h_S_) main_v15 main_c_5
  let main_v17 : IVec S_ 1 := andi main_v13 main_v16
  let main_cst_6 : FVec F S_ .f32 := constant S_ .f32 0x00000000#32
  let main_v18 : FVec F S8 .f32 := broadcastInDim S8 ![] bcast_S_S8 main_cst_6
  let main_v19 : IVec S8 1 := cmpf .oge main_arg3 main_v18
  let main_c_7 : IVec S_ 1 := constantI S_ 1 1#1
  let main_v20 : IVec S_ 1 := (fun x v => Host.reduce IntOp.andi x v reducesTo_S8_S_d0 h_S_) main_v19 main_c_7
  let main_v21 : IVec S_ 1 := andi main_v17 main_v20
  main_v21

def fn {F : FTy → Type} [FloatOps F] (main_arg0 : FVec F S32768x1x28x28 .f32) (main_arg1 : FVec F S8x1x3x3 .f32) (main_arg2 : FVec F S8 .f32) (main_arg3 : FVec F S8 .f32) (main_arg4 : FVec F S8 .f32) (main_arg5 : FVec F S10x392 .f32) (main_arg6 : FVec F S10 .f32) : IVec S_ 1 :=
  let main_v0 : FVec F S32768x1x28x28 .f32 := Host.absf main_arg0
  let main_cst : FVec F S_ .f32 := constant S_ .f32 0x7F800000#32
  let main_v1 : FVec F S32768x1x28x28 .f32 := broadcastInDim S32768x1x28x28 ![] bcast_S_S32768x1x28x28 main_cst
  let main_v2 : IVec S32768x1x28x28 1 := cmpf .olt main_v0 main_v1
  let main_c : IVec S_ 1 := constantI S_ 1 1#1
  let main_v3 : IVec S_ 1 := (fun x v => Host.reduce IntOp.andi x v reducesTo_S32768x1x28x28_S_d0_1_2_3 h_S_) main_v2 main_c
  let main_v4 : FVec F S8x1x3x3 .f32 := Host.absf main_arg1
  let main_cst_0 : FVec F S_ .f32 := constant S_ .f32 0x7F800000#32
  let main_v5 : FVec F S8x1x3x3 .f32 := broadcastInDim S8x1x3x3 ![] bcast_S_S8x1x3x3 main_cst_0
  let main_v6 : IVec S8x1x3x3 1 := cmpf .olt main_v4 main_v5
  let main_c_1 : IVec S_ 1 := constantI S_ 1 1#1
  let main_v7 : IVec S_ 1 := (fun x v => Host.reduce IntOp.andi x v reducesTo_S8x1x3x3_S_d0_1_2_3 h_S_) main_v6 main_c_1
  let main_v8 : IVec S_ 1 := andi main_v3 main_v7
  let main_v9 : FVec F S8 .f32 := Host.absf main_arg2
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  let main_cst_4 : FVec F S_ .f32 := constant S_ .f32 0x7F800000#32
  let main_v14 : FVec F S8 .f32 := broadcastInDim S8 ![] bcast_S_S8 main_cst_4
  let main_v15 : IVec S8 1 := cmpf .olt main_arg3 main_v14
  let main_c_5 : IVec S_ 1 := constantI S_ 1 1#1
  fn_part1 (F := F) main_arg3 main_v13 main_v15 main_c_5
-- ==== Kernel.lean ====
abbrev S32768x1x28x28 : Shape := ⟨4, ![32768, 1, 28, 28]⟩
abbrev S8x1x3x3 : Shape := ⟨4, ![8, 1, 3, 3]⟩
abbrev S8 : Shape := ⟨1, ![8]⟩
abbrev S10x392 : Shape := ⟨2, ![10, 392]⟩
abbrev S10 : Shape := ⟨1, ![10]⟩
abbrev S3x28x14 : Shape := ⟨3, ![3, 28, 14]⟩
abbrev S28x28x1x32768 : Shape := ⟨4, ![28, 28, 1, 32768]⟩
abbrev S784x1x32768 : Shape := ⟨3, ![784, 1, 32768]⟩
abbrev S8x3x3 : Shape := ⟨3, ![8, 3, 3]⟩
abbrev S28x14x8x3 : Shape := ⟨4, ![28, 14, 8, 3]⟩
abbrev S14x8x3x28 : Shape := ⟨4, ![14, 8, 3, 28]⟩
abbrev S112x84 : Shape := ⟨2, ![112, 84]⟩
abbrev S392x32768 : Shape := ⟨2, ![392, 32768]⟩
abbrev S16x112x128 : Shape := ⟨3, ![16, 112, 128]⟩
abbrev S784x1x2048 : Shape := ⟨3, ![784, 1, 2048]⟩
abbrev S392x2048 : Shape := ⟨2, ![392, 2048]⟩
abbrev S1x112x128 : Shape := ⟨3, ![1, 112, 128]⟩
abbrev S784x2048 : Shape := ⟨2, ![784, 2048]⟩
abbrev S28x2048 : Shape := ⟨2, ![28, 2048]⟩
abbrev S812x2048 : Shape := ⟨2, ![812, 2048]⟩
abbrev S112x2048 : Shape := ⟨2, ![112, 2048]⟩
abbrev S84x2048 : Shape := ⟨2, ![84, 2048]⟩
abbrev S7x2x8x2048 : Shape := ⟨4, ![7, 2, 8, 2048]⟩
abbrev S7x1x8x2048 : Shape := ⟨4, ![7, 1, 8, 2048]⟩
abbrev S7x8x2048 : Shape := ⟨3, ![7, 8, 2048]⟩
abbrev S56x2048 : Shape := ⟨2, ![56, 2048]⟩
abbrev S112x1024 : Shape := ⟨2, ![112, 1024]⟩
abbrev S112x512 : Shape := ⟨2, ![112, 512]⟩
abbrev S112x256 : Shape := ⟨2, ![112, 256]⟩
abbrev S112x128 : Shape := ⟨2, ![112, 128]⟩
abbrev S16x14x8x128 : Shape := ⟨4, ![16, 14, 8, 128]⟩
abbrev S_ : Shape := ⟨0, ![]⟩
abbrev S8x1 : Shape := ⟨2, ![8, 1]⟩
abbrev S8x2048 : Shape := ⟨2, ![8, 2048]⟩
abbrev S10x8x7x7 : Shape := ⟨4, ![10, 8, 7, 7]⟩
abbrev S10x7x7x8 : Shape := ⟨4, ![10, 7, 7, 8]⟩
abbrev S10x32768 : Shape := ⟨2, ![10, 32768]⟩
abbrev S10x2048 : Shape := ⟨2, ![10, 2048]⟩
abbrev S32768x10 : Shape := ⟨2, ![32768, 10]⟩
abbrev S1x10 : Shape := ⟨2, ![1, 10]⟩

abbrev nBuf : Space → Nat
  | .hbm => 51
  | .vmem => 16
  | .smem => 0
  | _ => 0

abbrev bufTy : (tb : Table) → Fin (tcTables nBuf tb) → BufTy
  | .hbm, ⟨0, _⟩ => ⟨S32768x1x28x28, .f32⟩
  | .hbm, ⟨1, _⟩ => ⟨S8x1x3x3, .f32⟩
  | .hbm, ⟨2, _⟩ => ⟨S8, .f32⟩
  | .hbm, ⟨3, _⟩ => ⟨S8, .f32⟩
  | .hbm, ⟨4, _⟩ => ⟨S8, .f32⟩
  | .hbm, ⟨5, _⟩ => ⟨S10x392, .f32⟩
  | .hbm, ⟨6, _⟩ => ⟨S10, .f32⟩
  | .hbm, ⟨7, _⟩ => ⟨S3x28x14, .f32⟩
  | .hbm, ⟨8, _⟩ => ⟨S28x28x1x32768, .f32⟩
  | .hbm, ⟨9, _⟩ => ⟨S784x1x32768, .f32⟩
  | .hbm, ⟨10, _⟩ => ⟨S8x3x3, .f32⟩
  | .hbm, ⟨11, _⟩ => ⟨S28x14x8x3, .f32⟩
  | .hbm, ⟨12, _⟩ => ⟨S14x8x3x28, .f32⟩
  | .hbm, ⟨13, _⟩ => ⟨S112x84, .f32⟩
  | .hbm, ⟨14, _⟩ => ⟨S392x32768, .bf16⟩
  | .hbm, ⟨15, _⟩ => ⟨S16x112x128, .f32⟩
  | .hbm, ⟨16, _⟩ => ⟨S16x112x128, .f32⟩
  | .hbm, ⟨17, _⟩ => ⟨S16x14x8x128, .f32⟩
  | .hbm, ⟨18, _⟩ => ⟨S_, .f32⟩
  | .hbm, ⟨19, _⟩ => ⟨S8, .f32⟩
  | .hbm, ⟨20, _⟩ => ⟨S16x14x8x128, .f32⟩
  | .hbm, ⟨21, _⟩ => ⟨S_, .f32⟩
  | .hbm, ⟨22, _⟩ => ⟨S8, .f32⟩
  | .hbm, ⟨23, _⟩ => ⟨S_, .f32⟩
  | .hbm, ⟨24, _⟩ => ⟨S8, .f32⟩
  | .hbm, ⟨25, _⟩ => ⟨S8, .f32⟩
  | .hbm, ⟨26, _⟩ => ⟨S_, .f32⟩
  | .hbm, ⟨27, _⟩ => ⟨S8, .f32⟩
  | .hbm, ⟨28, _⟩ => ⟨S8, .f32⟩
  | .hbm, ⟨29, _⟩ => ⟨S8, .f32⟩
  | .hbm, ⟨30, _⟩ => ⟨S8, .f32⟩
  | .hbm, ⟨31, _⟩ => ⟨S_, .f32⟩
  | .hbm, ⟨32, _⟩ => ⟨S8, .f32⟩
  | .hbm, ⟨33, _⟩ => ⟨S8, .f32⟩
  | .hbm, ⟨34, _⟩ => ⟨S8, .f32⟩
  | .hbm, ⟨35, _⟩ => ⟨S8, .f32⟩
  | .hbm, ⟨36, _⟩ => ⟨S8, .f32⟩
  | .hbm, ⟨37, _⟩ => ⟨S8, .f32⟩
  | .hbm, ⟨38, _⟩ => ⟨S8x1, .f32⟩
  | .hbm, ⟨39, _⟩ => ⟨S8x2048, .f32⟩
  | .hbm, ⟨40, _⟩ => ⟨S8x1, .f32⟩
  | .hbm, ⟨41, _⟩ => ⟨S8x2048, .f32⟩
  | .hbm, ⟨42, _⟩ => ⟨S10x8x7x7, .f32⟩
  | .hbm, ⟨43, _⟩ => ⟨S10x7x7x8, .f32⟩
  | .hbm, ⟨44, _⟩ => ⟨S10x392, .f32⟩
  | .hbm, ⟨45, _⟩ => ⟨S10x392, .bf16⟩
  | .hbm, ⟨46, _⟩ => ⟨S10x32768, .f32⟩
  | .hbm, ⟨47, _⟩ => ⟨S32768x10, .f32⟩
  | .hbm, ⟨48, _⟩ => ⟨S1x10, .f32⟩
  | .hbm, ⟨49, _⟩ => ⟨S32768x10, .f32⟩
  | .hbm, ⟨50, _⟩ => ⟨S32768x10, .f32⟩
  | .local _ .vmem, ⟨0, _⟩ => ⟨S784x1x2048, .f32⟩
  | .local _ .vmem, ⟨1, _⟩ => ⟨S784x1x2048, .f32⟩
  | .local _ .vmem, ⟨2, _⟩ => ⟨S112x84, .f32⟩
  | .local _ .vmem, ⟨3, _⟩ => ⟨S392x2048, .bf16⟩
  | .local _ .vmem, ⟨4, _⟩ => ⟨S392x2048, .bf16⟩
  | .local _ .vmem, ⟨5, _⟩ => ⟨S1x112x128, .f32⟩
  | .local _ .vmem, ⟨6, _⟩ => ⟨S1x112x128, .f32⟩
  | .local _ .vmem, ⟨7, _⟩ => ⟨S1x112x128, .f32⟩
  | .local _ .vmem, ⟨8, _⟩ => ⟨S1x112x128, .f32⟩
  | .local _ .vmem, ⟨9, _⟩ => ⟨S392x2048, .bf16⟩
  | .local _ .vmem, ⟨10, _⟩ => ⟨S392x2048, .bf16⟩
  | .local _ .vmem, ⟨11, _⟩ => ⟨S10x392, .bf16⟩
  | .local _ .vmem, ⟨12, _⟩ => ⟨S8x2048, .f32⟩
  | .local _ .vmem, ⟨13, _⟩ => ⟨S8x2048, .f32⟩
  | .local _ .vmem, ⟨14, _⟩ => ⟨S10x2048, .f32⟩
  | .local _ .vmem, ⟨15, _⟩ => ⟨S10x2048, .f32⟩
  | _, _ => ⟨S32768x1x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_cst_3 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_4 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S784x1x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S112x84 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S392x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x112x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x112x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S392x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10x392 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S8x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S8x2048 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== ReferenceIdeal.lean ====
abbrev S32768x1x28x28 : Shape := ⟨4, ![32768, 1, 28, 28]⟩
abbrev S8x1x3x3 : Shape := ⟨4, ![8, 1, 3, 3]⟩
abbrev S8 : Shape := ⟨1, ![8]⟩
abbrev S10x392 : Shape := ⟨2, ![10, 392]⟩
abbrev S10 : Shape := ⟨1, ![10]⟩
abbrev S32768x28x28 : Shape := ⟨3, ![32768, 28, 28]⟩
abbrev S_ : Shape := ⟨0, ![]⟩
abbrev S32768x30x30 : Shape := ⟨3, ![32768, 30, 30]⟩
abbrev S32768x8x14x14 : Shape := ⟨4, ![32768, 8, 14, 14]⟩
abbrev S32768x14x14 : Shape := ⟨3, ![32768, 14, 14]⟩
abbrev S32768x1x14x14 : Shape := ⟨4, ![32768, 1, 14, 14]⟩
abbrev S8x1x1x1 : Shape := ⟨4, ![8, 1, 1, 1]⟩
abbrev S1x8x1x1 : Shape := ⟨4, ![1, 8, 1, 1]⟩
abbrev S32768x8x7x2x7x2 : Shape := ⟨6, ![32768, 8, 7, 2, 7, 2]⟩
abbrev S32768x8x7x7 : Shape := ⟨4, ![32768, 8, 7, 7]⟩
abbrev S32768x392 : Shape := ⟨2, ![32768, 392]⟩
abbrev S392x10 : Shape := ⟨2, ![392, 10]⟩
abbrev S32768x10 : Shape := ⟨2, ![32768, 10]⟩
abbrev S1x10 : Shape := ⟨2, ![1, 10]⟩

abbrev nBuf : Space → Nat
  | .hbm => 153
  | .vmem => 0
  | .smem => 0
  | _ => 0

abbrev hbmTy0_0 (i : Nat) : BufTy := match i % 128 with
  | 0 => ⟨S32768x1x28x28, .f32⟩
  | 1 => ⟨S8x1x3x3, .f32⟩
  | 2 => ⟨S8, .f32⟩
  | 3 => ⟨S8, .f32⟩
  | 4 => ⟨S8, .f32⟩
  | 5 => ⟨S10x392, .f32⟩
  | 6 => ⟨S10, .f32⟩
  | 7 => ⟨S32768x28x28, .f32⟩
  | 8 => ⟨S_, .i32⟩
  | 9 => ⟨S_, .f32⟩
  | 10 => ⟨S32768x30x30, .f32⟩
  | 11 => ⟨S_, .f32⟩
  | 12 => ⟨S32768x8x14x14, .f32⟩
  | 13 => ⟨S32768x14x14, .f32⟩
  | 14 => ⟨S32768x1x14x14, .f32⟩
  | 15 => ⟨S8x1x1x1, .f32⟩
  | 16 => ⟨S8, .f32⟩
  | 17 => ⟨S1x8x1x1, .f32⟩
  | 18 => ⟨S32768x8x14x14, .f32⟩
  | 19 => ⟨S32768x8x14x14, .f32⟩
  | 20 => ⟨S32768x8x14x14, .f32⟩
  | 21 => ⟨S32768x8x14x14, .f32⟩
  | 22 => ⟨S32768x14x14, .f32⟩
  | 23 => ⟨S32768x1x14x14, .f32⟩
  | 24 => ⟨S8x1x1x1, .f32⟩
  | 25 => ⟨S8, .f32⟩
  | 26 => ⟨S1x8x1x1, .f32⟩
  | 27 => ⟨S32768x8x14x14, .f32⟩
  | 28 => ⟨S32768x8x14x14, .f32⟩
  | 29 => ⟨S32768x8x14x14, .f32⟩
  | 30 => ⟨S32768x8x14x14, .f32⟩
  | 31 => ⟨S32768x14x14, .f32⟩
  | 32 => ⟨S32768x1x14x14, .f32⟩
  | 33 => ⟨S8x1x1x1, .f32⟩
  | 34 => ⟨S8, .f32⟩
  | 35 => ⟨S1x8x1x1, .f32⟩
  | 36 => ⟨S32768x8x14x14, .f32⟩
  | 37 => ⟨S32768x8x14x14, .f32⟩
  | 38 => ⟨S32768x8x14x14, .f32⟩
  | 39 => ⟨S32768x8x14x14, .f32⟩
  | 40 => ⟨S32768x14x14, .f32⟩
  | 41 => ⟨S32768x1x14x14, .f32⟩
  | 42 => ⟨S8x1x1x1, .f32⟩
  | 43 => ⟨S8, .f32⟩
  | 44 => ⟨S1x8x1x1, .f32⟩
  | 45 => ⟨S32768x8x14x14, .f32⟩
  | 46 => ⟨S32768x8x14x14, .f32⟩
  | 47 => ⟨S32768x8x14x14, .f32⟩
  | 48 => ⟨S32768x8x14x14, .f32⟩
  | 49 => ⟨S32768x14x14, .f32⟩
  | 50 => ⟨S32768x1x14x14, .f32⟩
  | 51 => ⟨S8x1x1x1, .f32⟩
  | 52 => ⟨S8, .f32⟩
  | 53 => ⟨S1x8x1x1, .f32⟩
  | 54 => ⟨S32768x8x14x14, .f32⟩
  | 55 => ⟨S32768x8x14x14, .f32⟩
  | 56 => ⟨S32768x8x14x14, .f32⟩
  | 57 => ⟨S32768x8x14x14, .f32⟩
  | 58 => ⟨S32768x14x14, .f32⟩
  | 59 => ⟨S32768x1x14x14, .f32⟩
  | 60 => ⟨S8x1x1x1, .f32⟩
  | 61 => ⟨S8, .f32⟩
  | 62 => ⟨S1x8x1x1, .f32⟩
  | 63 => ⟨S32768x8x14x14, .f32⟩
  | 64 => ⟨S32768x8x14x14, .f32⟩
  | 65 => ⟨S32768x8x14x14, .f32⟩
  | 66 => ⟨S32768x8x14x14, .f32⟩
  | 67 => ⟨S32768x14x14, .f32⟩
  | 68 => ⟨S32768x1x14x14, .f32⟩
  | 69 => ⟨S8x1x1x1, .f32⟩
  | 70 => ⟨S8, .f32⟩
  | 71 => ⟨S1x8x1x1, .f32⟩
  | 72 => ⟨S32768x8x14x14, .f32⟩
  | 73 => ⟨S32768x8x14x14, .f32⟩
  | 74 => ⟨S32768x8x14x14, .f32⟩
  | 75 => ⟨S32768x8x14x14, .f32⟩
  | 76 => ⟨S32768x14x14, .f32⟩
  | 77 => ⟨S32768x1x14x14, .f32⟩
  | 78 => ⟨S8x1x1x1, .f32⟩
  | 79 => ⟨S8, .f32⟩
  | 80 => ⟨S1x8x1x1, .f32⟩
  | 81 => ⟨S32768x8x14x14, .f32⟩
  | 82 => ⟨S32768x8x14x14, .f32⟩
  | 83 => ⟨S32768x8x14x14, .f32⟩
  | 84 => ⟨S32768x8x14x14, .f32⟩
  | 85 => ⟨S32768x14x14, .f32⟩
  | 86 => ⟨S32768x1x14x14, .f32⟩
  | 87 => ⟨S8x1x1x1, .f32⟩
  | 88 => ⟨S8, .f32⟩
  | 89 => ⟨S1x8x1x1, .f32⟩
  | 90 => ⟨S32768x8x14x14, .f32⟩
  | 91 => ⟨S32768x8x14x14, .f32⟩
  | 92 => ⟨S32768x8x14x14, .f32⟩
  | 93 => ⟨S32768x8x14x14, .f32⟩
  | 94 => ⟨S1x8x1x1, .f32⟩
  | 95 => ⟨S32768x8x14x14, .f32⟩
  | 96 => ⟨S32768x8x14x14, .f32⟩
  | 97 => ⟨S_, .f32⟩
  | 98 => ⟨S8, .f32⟩
  | 99 => ⟨S_, .f32⟩
  | 100 => ⟨S8, .f32⟩
  | 101 => ⟨S8, .f32⟩
  | 102 => ⟨S_, .i32⟩
  | 103 => ⟨S_, .f32⟩
  | 104 => ⟨S8, .f32⟩
  | 105 => ⟨S1x8x1x1, .f32⟩
  | 106 => ⟨S_, .f32⟩
  | 107 => ⟨S1x8x1x1, .f32⟩
  | 108 => ⟨S1x8x1x1, .f32⟩
  | 109 => ⟨S32768x8x14x14, .f32⟩
  | 110 => ⟨S32768x8x14x14, .f32⟩
  | 111 => ⟨S32768x8x14x14, .f32⟩
  | 112 => ⟨S_, .f32⟩
  | 113 => ⟨S_, .f32⟩
  | 114 => ⟨S_, .f32⟩
  | 115 => ⟨S_, .f32⟩
  | 116 => ⟨S8, .f32⟩
  | 117 => ⟨S8, .f32⟩
  | 118 => ⟨S8, .f32⟩
  | 119 => ⟨S_, .f32⟩
  | 120 => ⟨S_, .i1⟩
  | 121 => ⟨S_, .f32⟩
  | 122 => ⟨S_, .f32⟩
  | 123 => ⟨S8, .f32⟩
  | 124 => ⟨S8, .f32⟩
  | 125 => ⟨S1x8x1x1, .f32⟩
  | 126 => ⟨S32768x8x14x14, .f32⟩
  | 127 => ⟨S32768x8x14x14, .f32⟩
  | _ => ⟨S32768x1x28x28, .f32⟩

abbrev hbmTy0_1 (i : Nat) : BufTy := match i % 128 with
  | 0 => ⟨S1x8x1x1, .f32⟩
  | 1 => ⟨S_, .f32⟩
  | 2 => ⟨S1x8x1x1, .f32⟩
  | 3 => ⟨S1x8x1x1, .f32⟩
  | 4 => ⟨S1x8x1x1, .f32⟩
  | 5 => ⟨S32768x8x14x14, .f32⟩
  | 6 => ⟨S32768x8x14x14, .f32⟩
  | 7 => ⟨S1x8x1x1, .f32⟩
  | 8 => ⟨S32768x8x14x14, .f32⟩
  | 9 => ⟨S32768x8x14x14, .f32⟩
  | 10 => ⟨S1x8x1x1, .f32⟩
  | 11 => ⟨S32768x8x14x14, .f32⟩
  | 12 => ⟨S32768x8x14x14, .f32⟩
  | 13 => ⟨S_, .f32⟩
  | 14 => ⟨S32768x8x14x14, .f32⟩
  | 15 => ⟨S32768x8x14x14, .f32⟩
  | 16 => ⟨S32768x8x7x2x7x2, .f32⟩
  | 17 => ⟨S_, .f32⟩
  | 18 => ⟨S32768x8x7x7, .f32⟩
  | 19 => ⟨S32768x392, .f32⟩
  | 20 => ⟨S392x10, .f32⟩
  | 21 => ⟨S32768x10, .f32⟩
  | 22 => ⟨S1x10, .f32⟩
  | 23 => ⟨S32768x10, .f32⟩
  | 24 => ⟨S32768x10, .f32⟩
  | _ => ⟨S32768x1x28x28, .f32⟩

abbrev hbmTy (i : Nat) : BufTy := match i / 128 with
  | 0 => hbmTy0_0 i
  | 1 => hbmTy0_1 i
  | _ => ⟨S32768x1x28x28, .f32⟩

abbrev bufTy : (tb : Table) → Fin (tcTables nBuf tb) → BufTy
  | .hbm, ⟨i, _⟩ => hbmTy i
  | _, _ => ⟨S32768x1x28x28, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_cst_0 : Ref sig .tc := ⟨.hbm, 97, rfl⟩
abbrev main_v87 : Ref sig .tc := ⟨.hbm, 98, rfl⟩
abbrev main_cst_1 : Ref sig .tc := ⟨.hbm, 99, rfl⟩
abbrev main_v88 : Ref sig .tc := ⟨.hbm, 100, rfl⟩
abbrev main_v89 : Ref sig .tc := ⟨.hbm, 101, rfl⟩
abbrev main_c_2 : Ref sig .tc := ⟨.hbm, 102, rfl⟩
abbrev main_call1_cst : Ref sig .tc := ⟨.hbm, 103, rfl⟩
abbrev main_call1_v0 : Ref sig .tc := ⟨.hbm, 104, rfl⟩
abbrev main_call1_v1 : Ref sig .tc := ⟨.hbm, 105, rfl⟩
abbrev main_call1_cst_0 : Ref sig .tc := ⟨.hbm, 106, rfl⟩
abbrev main_call1_v2 : Ref sig .tc := ⟨.hbm, 107, rfl⟩
abbrev main_call1_v3 : Ref sig .tc := ⟨.hbm, 108, rfl⟩
abbrev main_call1_v4 : Ref sig .tc := ⟨.hbm, 109, rfl⟩
abbrev main_call1_v5 : Ref sig .tc := ⟨.hbm, 110, rfl⟩
abbrev main_call1_v6 : Ref sig .tc := ⟨.hbm, 111, rfl⟩
abbrev main_call1_v7 : Ref sig .tc := ⟨.hbm, 112, rfl⟩
abbrev main_call1_cst_1 : Ref sig .tc := ⟨.hbm, 113, rfl⟩
abbrev main_call1_v8 : Ref sig .tc := ⟨.hbm, 114, rfl⟩
abbrev main_call1_cst_2 : Ref sig .tc := ⟨.hbm, 115, rfl⟩
abbrev main_call1_v9 : Ref sig .tc := ⟨.hbm, 116, rfl⟩
abbrev main_call1_v10 : Ref sig .tc := ⟨.hbm, 117, rfl⟩
abbrev main_call1_v11 : Ref sig .tc := ⟨.hbm, 118, rfl⟩
abbrev main_call1_cst_3 : Ref sig .tc := ⟨.hbm, 119, rfl⟩
abbrev main_call1_v12 : Ref sig .tc := ⟨.hbm, 120, rfl⟩
abbrev main_call1_cst_4 : Ref sig .tc := ⟨.hbm, 121, rfl⟩
abbrev main_call1_call0_v0 : Ref sig .tc := ⟨.hbm, 122, rfl⟩
abbrev main_call1_call0_v1 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_cst_3 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_call2_cst : Ref sig .tc := ⟨.hbm, 141, rfl⟩
abbrev main_call2_v0 : Ref sig .tc := ⟨.hbm, 142, rfl⟩
abbrev main_v106 : Ref sig .tc := ⟨.hbm, 143, rfl⟩
abbrev main_v107 : Ref sig .tc := ⟨.hbm, 144, rfl⟩
abbrev main_cst_4 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩

abbrev nD : Nat := 1
abbrev τ : Topo := Topo.v7x

variable {F : FTy → Type} [FloatOps F]
-- ==== Proof.KernelRun.lean ====
/-
  The run of the kernel with its result: the array `main_v35` ends at the last boundary's contents.
-/
module

public import proofs.«01_k».proof.Proof.Gen.KernelIdeal.Frame

@[expose] public section

set_option maxRecDepth 16384

noncomputable section

namespace Cert.KernelIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution of the kernel terminates with the result array at the last boundary's contents and the arguments
    as launched. -/
theorem run_out : θ_run defs (onTc (τ := τ) (main (F := F))) ⟨m, fun _ => 0, ρ⟩ (fun r => (∀ c : Dev nD,
      r.2.mem ((c.tc : Thread nD τ).loc main_v35) = W5 m ρ c (Proc.devRef .tc main_v35)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c =>
      ⟨h c _ (mem_uc main_v35 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c)⟩)

end Cert.KernelIdeal.Value

end
-- ==== Proof.KernelBlock.lean ====
/-
  What one grid point of the first kernel computes from its two input blocks: the convolution rows (one
  contraction over 84 padded pixels each), the pooled block and the two blocks of partial sums.
-/
module

public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.KernelIdeal.Value

open Idealize.ShloMosaic Idealize.ShloMosaic.TcCoe Idealize.SL.Sem
open Cert.KernelIdeal Cert.KernelIdeal.Gen

/-- One convolution value of a block: row `p` of the weight matrix against the 84 padded pixel rows that start at
    row `o`, at batch lane `l`. -/
def E (A : FVec Ideal S112x84 .f32) (P : FVec Ideal S812x2048 .f32) (o : ℕ) (ho : o + 84 ≤ 812) (p : Fin 112) (l : Fin 2048) : EReal :=
  ∑ k : Fin 84, A (ix2 p k) * P (ix2 ⟨o + k, by omega⟩ l)

variable (x0 : FVec Ideal S784x1x2048 .f32) (A : FVec Ideal S112x84 .f32) (P : FVec Ideal S812x2048 .f32)

/-- The padded image block: 28 rows of zeros above the 784 pixel rows. -/
theorem pay4_at (r : Fin 812) (l : Fin 2048) :
    k0_pay4 (F := Ideal) x0 (ix2 r l) = if h : (r : ℕ) < 28 then 0 else x0 (ix3 ⟨r - 28, by omega⟩ 0 l) := by
  pointwise [k0_pay4]

/-! The fourteen convolution rows. -/

theorem row0 (p : Fin 112) (l : Fin 2048) : k0_pay6 (F := Ideal) x0 A (ix2 p l) = E A (k0_pay4 x0) 0 (by omega) p l := by
  pointwise [k0_pay6, k0_pay5, E]
theorem row1 (p : Fin 112) (l : Fin 2048) : k0_pay7 (F := Ideal) x0 A (ix2 p l) = E A (k0_pay4 x0) 56 (by omega) p l := by
  pointwise [k0_pay7, k0_pay5, E]
theorem row2 (p : Fin 112) (l : Fin 2048) : k0_pay9 (F := Ideal) x0 A (ix2 p l) = E A (k0_pay4 x0) 112 (by omega) p l := by
  pointwise [k0_pay9, k0_pay5, E]
theorem row3 (p : Fin 112) (l : Fin 2048) : k0_pay10 (F := Ideal) x0 A (ix2 p l) = E A (k0_pay4 x0) 168 (by omega) p l := by
  pointwise [k0_pay10, k0_pay5, E]
theorem row4 (p : Fin 112) (l : Fin 2048) : k0_pay17 (F := Ideal) P A (ix2 p l) = E A P 224 (by omega) p l := by
  pointwise [k0_pay17, E]
theorem row5 (p : Fin 112) (l : Fin 2048) : k0_pay18 (F := Ideal) P A (ix2 p l) = E A P 280 (by omega) p l := by
  pointwise [k0_pay18, E]
theorem row6 (p : Fin 112) (l : Fin 2048) : k0_pay20 (F := Ideal) P A (ix2 p l) = E A P 336 (by omega) p l := by
  pointwise [k0_pay20, E]
theorem row7 (p : Fin 112) (l : Fin 2048) : k0_pay21 (F := Ideal) P A (ix2 p l) = E A P 392 (by omega) p l := by
  pointwise [k0_pay21, E]
theorem row8 (p : Fin 112) (l : Fin 2048) : k0_pay27 (F := Ideal) A (k0_pay25 P) (ix2 p l) = E A P 448 (by omega) p l := by
  pointwise [k0_pay27, k0_pay25, E]
theorem row9 (p : Fin 112) (l : Fin 2048) : k0_pay28 (F := Ideal) A (k0_pay26 P) (ix2 p l) = E A P 504 (by omega) p l := by
  pointwise [k0_pay28, k0_pay26, E]
theorem row10 (p : Fin 112) (l : Fin 2048) : k0_pay30 (F := Ideal) P A (ix2 p l) = E A P 560 (by omega) p l := by
  pointwise [k0_pay30, E]
theorem row11 (p : Fin 112) (l : Fin 2048) : k0_pay31 (F := Ideal) P A (ix2 p l) = E A P 616 (by omega) p l := by
  pointwise [k0_pay31, E]
theorem row12 (p : Fin 112) (l : Fin 2048) : k0_pay33 (F := Ideal) P A (ix2 p l) = E A P 672 (by omega) p l := by
  pointwise [k0_pay33, E]
theorem row13 (p : Fin 112) (l : Fin 2048) : k0_pay34 (F := Ideal) P A (ix2 p l) = E A P 728 (by omega) p l := by
  pointwise [k0_pay34, E]

/-- The 16 lane groups of a row, added in halves, are the sum over the groups. -/
theorem fold_lanes (v : FVec Ideal S112x2048 .f32) (z : Fin 1) (p : Fin 112) (l : Fin 128) :
    k0_pay2 (F := Ideal) v (ix3 z p l) = ∑ g : Fin 16, v (ix2 p ⟨g * 128 + l, by omega⟩) := by
  pointwise [k0_pay2]
  simp only [Fin.sum_univ_succ, Fin.sum_univ_zero, Fin.val_succ, Fin.val_zero, Nat.reduceAdd, Nat.reduceMul, ← Nat.add_assoc, Nat.zero_add, add_zero]
  ac_rfl

theorem pay3_eq : k0_pay3 (F := Ideal) = k0_pay2 (F := Ideal) := rfl

/-- The rows' running sum is the sum over the fourteen rows. -/
theorem acc_rows (p : Fin 112) (l : Fin 2048) :
    k0_pay35 (F := Ideal) (k0_pay4 x0) A (k0_pay22 (k0_pay4 x0) A (k0_pay11 x0 A)) (k0_pay25 (k0_pay4 x0)) (k0_pay26 (k0_pay4 x0)) (ix2 p l)
      = ∑ oh : Fin 14, E A (k0_pay4 x0) (56 * oh) (by omega) p l := by
  pointwise [k0_pay35, k0_pay22, k0_pay11, row0, row1, row2, row3, row4, row5, row6, row7, row8, row9, row10, row11, row12, row13]
  simp only [Fin.sum_univ_succ, Fin.sum_univ_zero, Fin.val_succ, Fin.val_zero, Nat.reduceAdd, Nat.reduceMul, Nat.zero_add, add_zero]
  ac_rfl

/-- The rows' running sum of squares is the sum of the squares of the fourteen rows. -/
theorem acc_squares (p : Fin 112) (l : Fin 2048) :
    k0_pay36 (F := Ideal) (k0_pay4 x0) A (k0_pay23 (k0_pay4 x0) A (k0_pay12 x0 A)) (k0_pay25 (k0_pay4 x0)) (k0_pay26 (k0_pay4 x0)) (ix2 p l)
      = ∑ oh : Fin 14, E A (k0_pay4 x0) (56 * oh) (by omega) p l * E A (k0_pay4 x0) (56 * oh) (by omega) p l := by
  pointwise [k0_pay36, k0_pay23, k0_pay12, row0, row1, row2, row3, row4, row5, row6, row7, row8, row9, row10, row11, row12, row13]
  simp only [Fin.sum_univ_succ, Fin.sum_univ_zero, Fin.val_succ, Fin.val_zero, Nat.reduceAdd, Nat.reduceMul, Nat.zero_add, add_zero]
  ac_rfl

/-- The pooled block before the affine map: row `56 * i + q` holds the largest of the four convolution values of rows
    `2 * i`, `2 * i + 1` at the two neighbouring columns. -/
def pooledAt (A : FVec Ideal S112x84 .f32) (P : FVec Ideal S812x2048 .f32) (i : Fin 7) (q : Fin 56) (l : Fin 2048) : EReal :=
  max (max (E A P (112 * i) (by omega) ⟨q / 8 * 16 + q % 8, by omega⟩ l) (E A P (112 * i + 56) (by omega) ⟨q / 8 * 16 + q % 8, by omega⟩ l))
    (max (E A P (112 * i) (by omega) ⟨q / 8 * 16 + 8 + q % 8, by omega⟩ l) (E A P (112 * i + 56) (by omega) ⟨q / 8 * 16 + 8 + q % 8, by omega⟩ l))

/-- The largest of two rows at two neighbouring columns. -/
theorem pool_pair (P1 P2 : FVec Ideal S112x2048 .f32) (q : Fin 56) (l : Fin 2048) :
    k0_pay1 (F := Ideal) P1 P2 (ix2 q l) = max (max (P1 (ix2 ⟨q / 8 * 16 + q % 8, by omega⟩ l)) (P2 (ix2 ⟨q / 8 * 16 + q % 8, by omega⟩ l)))
      (max (P1 (ix2 ⟨q / 8 * 16 + 8 + q % 8, by omega⟩ l)) (P2 (ix2 ⟨q / 8 * 16 + 8 + q % 8, by omega⟩ l))) := by
  pointwise [k0_pay1]

theorem pay5_eq : k0_pay5 (F := Ideal) A = A := by
  funext j
  idx_vars j
  pointwise [k0_pay5]

theorem pooledAt_congr {i i' : Fin 7} {q q' : Fin 56} {l l' : Fin 2048} (hi : (i : ℕ) = i') (hq : (q : ℕ) = q') (hl : (l : ℕ) = l') :
    pooledAt A P i q l = pooledAt A P i' q' l' := by
  obtain rfl := Fin.ext hi
  obtain rfl := Fin.ext hq
  obtain rfl := Fin.ext hl
  rfl

/-! The seven pooled pieces. -/

theorem piece0 (q : Fin 56) (l : Fin 2048) : k0_pay8 (F := Ideal) x0 A (ix2 q l) = pooledAt A (k0_pay4 x0) 0 q l := by
  refine (pool_pair (k0_pay6 x0 A) (k0_pay7 x0 A) q l).trans ?_
  rw [row0, row0, row1, row1]
  rfl
theorem piece1 (q : Fin 56) (l : Fin 2048) : k0_pay16 (F := Ideal) (k0_pay14 x0 A) (k0_pay15 x0 A) (ix2 q l) = pooledAt A (k0_pay4 x0) 1 q l := by
  refine (pool_pair (k0_pay9 x0 A) (k0_pay10 x0 A) q l).trans ?_
  rw [row2, row2, row3, row3]
  rfl
theorem piece2 (q : Fin 56) (l : Fin 2048) : k0_pay19 (F := Ideal) (k0_pay4 x0) A (ix2 q l) = pooledAt A (k0_pay4 x0) 2 q l := by
  refine (pool_pair (k0_pay17 (k0_pay4 x0) A) (k0_pay18 (k0_pay4 x0) A) q l).trans ?_
  rw [row4, row4, row5, row5]
  rfl
theorem piece3 (q : Fin 56) (l : Fin 2048) : k0_pay24 (F := Ideal) (k0_pay4 x0) A (ix2 q l) = pooledAt A (k0_pay4 x0) 3 q l := by
  refine (pool_pair (k0_pay20 (k0_pay4 x0) A) (k0_pay21 (k0_pay4 x0) A) q l).trans ?_
  rw [row6, row6, row7, row7]
  rfl
theorem piece4 (q : Fin 56) (l : Fin 2048) : k0_pay29 (F := Ideal) A (k0_pay25 (k0_pay4 x0)) (k0_pay26 (k0_pay4 x0)) (ix2 q l) = pooledAt A (k0_pay4 x0) 4 q l := by
  refine (pool_pair (k0_pay27 A (k0_pay25 (k0_pay4 x0))) (k0_pay28 A (k0_pay26 (k0_pay4 x0))) q l).trans ?_
  rw [row8, row8, row9, row9]
  rfl
theorem piece5 (q : Fin 56) (l : Fin 2048) : k0_pay32 (F := Ideal) (k0_pay4 x0) A (ix2 q l) = pooledAt A (k0_pay4 x0) 5 q l := by
  refine (pool_pair (k0_pay30 (k0_pay4 x0) A) (k0_pay31 (k0_pay4 x0) A) q l).trans ?_
  rw [row10, row10, row11, row11]
  rfl
theorem piece6 (q : Fin 56) (l : Fin 2048) : k0_pay1 (F := Ideal) (k0_pay33 (k0_pay4 x0) A) (k0_pay34 (k0_pay4 x0) A) (ix2 q l) = pooledAt A (k0_pay4 x0) 6 q l := by
  refine (pool_pair (k0_pay33 (k0_pay4 x0) A) (k0_pay34 (k0_pay4 x0) A) q l).trans ?_
  rw [row12, row12, row13, row13]
  rfl

theorem pay38_eq : k0_pay38 (F := Ideal) x0 A = A := by
  unfold k0_pay38
  frame_out
  exact pay5_eq A

theorem pay37_eq : k0_pay37 (F := Ideal) x0 A = k0_pay4 x0 := by
  unfold k0_pay37
  frame_out

theorem pay39_eq : k0_pay39 (F := Ideal) x0 A = k0_pay25 (k0_pay4 x0) := by
  unfold k0_pay39
  rw [pay37_eq]

theorem pay40_eq : k0_pay40 (F := Ideal) x0 A = k0_pay26 (k0_pay4 x0) := by
  unfold k0_pay40
  rw [pay37_eq]

/-- The pooled block at an index. -/
theorem out2_at (y : S392x2048.Idx) :
    out0_2 (F := Ideal) x0 A y = pooledAt A (k0_pay4 x0) ⟨(y 0 : ℕ) / 56, by have := (y 0).isLt; simp at this; omega⟩ ⟨(y 0 : ℕ) % 56, by omega⟩ (y 1) := by
  frame_out
  rw [pay38_eq, pay37_eq, pay39_eq, pay40_eq]
  canon_tiles x h
  all_goals rw [eq_ix2 x]
  · exact (piece6 x0 A (x 0) (x 1)).trans (pooledAt_congr _ _ (by show 6 = (y 0 : ℕ) / 56; omega) (by show (x 0 : ℕ) = (y 0 : ℕ) % 56; omega) h1.symm)
  · exact (piece5 x0 A (x 0) (x 1)).trans (pooledAt_congr _ _ (by show 5 = (y 0 : ℕ) / 56; omega) (by show (x 0 : ℕ) = (y 0 : ℕ) % 56; omega) h1.symm)
  · exact (piece4 x0 A (x 0) (x 1)).trans (pooledAt_congr _ _ (by show 4 = (y 0 : ℕ) / 56; omega) (by show (x 0 : ℕ) = (y 0 : ℕ) % 56; omega) h1.symm)
  · exact (piece3 x0 A (x 0) (x 1)).trans (pooledAt_congr _ _ (by show 3 = (y 0 : ℕ) / 56; omega) (by show (x 0 : ℕ) = (y 0 : ℕ) % 56; omega) h1.symm)
  · exact (piece2 x0 A (x 0) (x 1)).trans (pooledAt_congr _ _ (by show 2 = (y 0 : ℕ) / 56; omega) (by show (x 0 : ℕ) = (y 0 : ℕ) % 56; omega) h1.symm)
  · exact (piece1 x0 A (x 0) (x 1)).trans (pooledAt_congr _ _ (by show 1 = (y 0 : ℕ) / 56; omega) (by show (x 0 : ℕ) = (y 0 : ℕ) % 56; omega) h1.symm)
  · exact (piece0 x0 A (x 0) (x 1)).trans (pooledAt_congr _ _ (by show 0 = (y 0 : ℕ) / 56; omega) (by show (x 0 : ℕ) = (y 0 : ℕ) % 56; omega) h1.symm)

/-- The block of partial sums at an index. -/
theorem out3_at (z : Fin 1) (p : Fin 112) (l : Fin 128) :
    out0_3 (F := Ideal) x0 A (ix3 z p l) = ∑ g : Fin 16, ∑ oh : Fin 14, E A (k0_pay4 x0) (56 * oh) (by omega) p ⟨g * 128 + l, by omega⟩ := by
  frame_out
  rw [pay38_eq, pay37_eq, pay39_eq, pay40_eq]
  refine (fold_lanes _ z p l).trans (Finset.sum_congr rfl fun g _ => acc_rows x0 A p _)

/-- The block of partial sums of squares at an index. -/
theorem out4_at (z : Fin 1) (p : Fin 112) (l : Fin 128) :
    out0_4 (F := Ideal) x0 A (ix3 z p l) = ∑ g : Fin 16, ∑ oh : Fin 14, E A (k0_pay4 x0) (56 * oh) (by omega) p ⟨g * 128 + l, by omega⟩
      * E A (k0_pay4 x0) (56 * oh) (by omega) p ⟨g * 128 + l, by omega⟩ := by
  frame_out
  rw [pay38_eq, pay37_eq, pay39_eq, pay40_eq]
  refine (fold_lanes _ z p l).trans (Finset.sum_congr rfl fun g _ => acc_squares x0 A p _)

/-! ## The second kernel -/

/-- Forty-nine copies of the eight channel rows: row `r` is the row of channel `r % 8`. -/
theorem repeat_at (s : FVec Ideal S8x2048 .f32) (h : Shape.Concatenates ((List.replicate 49 (⟨S8x2048, s⟩ : (s : Shape) × (s.Idx → EReal))).map (·.1)) S392x2048 0)
    (r : Fin 392) (l : Fin 2048) :
    concatenate S392x2048 0 (List.replicate 49 (⟨S8x2048, s⟩ : (s : Shape) × (s.Idx → EReal))) h (ix2 r l) = s (ix2 ⟨r % 8, by omega⟩ l) := by
  refine concatenate_replicate_apply (t := S392x2048) (s₁ := S8x2048) (0 : Fin 2) 49 s h rfl (ix2 r l) (ix2 ⟨r % 8, by omega⟩ l) rfl ?_
  intro b hb
  match b with
  | ⟨0, _⟩ => exact absurd rfl hb
  | ⟨1, _⟩ => rfl

/-- The second kernel's body over the repeated scale and shift. -/
def fcBlock (q : FVec Ideal S392x2048 .bf16) (s t : FVec Ideal S392x2048 .f32) (w : FVec Ideal S10x392 .bf16) : FVec Ideal S10x2048 .f32 :=
  matmul dot_S10x392_S392x2048_S10x2048_1_0_0_1_n_n none (shapeCast S10x392 w shapeCasts_S10x392_S10x392)
    (truncf .bf16 (maximumf (addf (mulf (extf .f32 (shapeCast S392x2048 q shapeCasts_S392x2048_S392x2048) bitsLt_bf16_f32) s) t)
      (broadcast S392x2048 (Scalar.ofBits .f32 0x00000000#32))) bitsLt_bf16_f32) (constant S10x2048 .f32 0x00000000#32)

theorem fcBlock_at (q : FVec Ideal S392x2048 .bf16) (s t : FVec Ideal S392x2048 .f32) (w : FVec Ideal S10x392 .bf16) (j : Fin 10) (l : Fin 2048) :
    fcBlock q s t w (ix2 j l) = ∑ r : Fin 392, w (ix2 j r) * max (q (ix2 r l) * s (ix2 r l) + t (ix2 r l)) 0 := by
  pointwise [fcBlock]

theorem cast8_eq (s : FVec Ideal S8x2048 .f32) : shapeCast S8x2048 s shapeCasts_S8x2048_S8x2048 = s := by
  funext j
  idx_vars j
  pointwise

/-- The block of results: the affine map by channel, the positive part, and the contraction over the 392 pooled rows. -/
theorem out1_at (q : FVec Ideal S392x2048 .bf16) (w : FVec Ideal S10x392 .bf16) (s t : FVec Ideal S8x2048 .f32) (j : Fin 10) (l : Fin 2048) :
    out1_4 (F := Ideal) q w s t (ix2 j l) = ∑ r : Fin 392, w (ix2 j r) * max (q (ix2 r l) * s (ix2 ⟨r % 8, by omega⟩ l) + t (ix2 ⟨r % 8, by omega⟩ l)) 0 := by
  frame_out
  refine (fcBlock_at q _ _ w j l).trans (Finset.sum_congr rfl fun r _ => ?_)
  refine congrArg₂ (· * ·) rfl (congrArg₂ max (congrArg₂ (· + ·) (congrArg₂ (· * ·) rfl ?_) ?_) rfl)
  · exact (repeat_at _ _ r l).trans (congrFun (cast8_eq s) _)
  · exact (repeat_at _ _ r l).trans (congrFun (cast8_eq t) _)

end Cert.KernelIdeal.Value

end
-- ==== Proof.Regions.lean ====
/-
  What the arrays of the two kernels hold after their grids: every grid point writes its own block, so an array is read
  at an index through the block that holds it.
-/
module

public import proofs.«01_k».proof.Proof.KernelBlock

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen

/-- The blocks every window is at, point by point: first kernel. -/
theorem idx0 : ∀ t : Fin cfg0.N, win0_0.index t = ![0, 0, t.val] ∧ win0_1.index t = ![0, 0] ∧ win0_2.index t = ![0, t.val]
    ∧ win0_3.index t = ![t.val, 0, 0] ∧ win0_4.index t = ![t.val, 0, 0] :=
  (by decide +kernel : ∀ t : Fin grid0.N, _)

/-- The blocks every window is at, point by point: second kernel. -/
theorem idx1 : ∀ t : Fin cfg1.N, win1_0.index t = ![0, t.val] ∧ win1_1.index t = ![0, 0] ∧ win1_2.index t = ![0, 0]
    ∧ win1_3.index t = ![0, 0] ∧ win1_4.index t = ![0, t.val] :=
  (by decide +kernel : ∀ t : Fin grid1.N, _)

/-- One convolution value: row `p` of the weight matrix against the 84 padded pixel rows that start at row `o`, for
    image `b`. The first 28 padded rows are zero. -/
def row (A : FVec Ideal S112x84 .f32) (X : FVec Ideal S784x1x32768 .f32) (o : ℕ) (ho : o + 84 ≤ 812) (p : Fin 112) (b : Fin 32768) : EReal :=
  ∑ k : Fin 84, A (ix2 p k) * (if h : o + k < 28 then 0 else X (ix3 ⟨o + k - 28, by omega⟩ 0 b))

/-- Image block `t`: the 2048 images from `2048 * t`. -/
def images (X : FVec Ideal S784x1x32768 .f32) (t : Fin 16) : FVec Ideal S784x1x2048 .f32 :=
  fun y => X (ix3 (y 0) (y 1) ⟨t * 2048 + (y 2 : ℕ), by have := (y 2).isLt; simp at this; omega⟩)

theorem E_images (A : FVec Ideal S112x84 .f32) (X : FVec Ideal S784x1x32768 .f32) (t : Fin 16) (o : ℕ) (ho : o + 84 ≤ 812) (p : Fin 112) (l : Fin 2048) :
    E A (k0_pay4 (images X t)) o ho p l = row A X o ho p ⟨t * 2048 + l, by omega⟩ :=
  Finset.sum_congr rfl fun k _ => congrArg₂ (· * ·) rfl (pay4_at (images X t) ⟨o + k, by omega⟩ l)

/-- The pooled array before the affine map. -/
def pooled (A : FVec Ideal S112x84 .f32) (X : FVec Ideal S784x1x32768 .f32) : FVec Ideal S392x32768 .bf16 := fun i =>
  pooledAt A (k0_pay4 (images X ⟨(i 1 : ℕ) / 2048, by have := (i 1).isLt; simp at this; omega⟩)) ⟨(i 0 : ℕ) / 56, by have := (i 0).isLt; simp at this; omega⟩
    ⟨(i 0 : ℕ) % 56, by omega⟩ ⟨(i 1 : ℕ) % 2048, by omega⟩

/-- The partial sums: point `t` adds up its fourteen rows and sixteen lane groups. -/
def sums (A : FVec Ideal S112x84 .f32) (X : FVec Ideal S784x1x32768 .f32) : FVec Ideal S16x112x128 .f32 := fun i =>
  out0_3 (F := Ideal) (images X (i 0)) A (ix3 0 (i 1) (i 2))

/-- The partial sums of squares. -/
def squares (A : FVec Ideal S112x84 .f32) (X : FVec Ideal S784x1x32768 .f32) : FVec Ideal S16x112x128 .f32 := fun i =>
  out0_4 (F := Ideal) (images X (i 0)) A (ix3 0 (i 1) (i 2))

theorem pooled_at (A : FVec Ideal S112x84 .f32) (X : FVec Ideal S784x1x32768 .f32) (r : Fin 392) (t : Fin 16) (l : Fin 2048) :
    pooled A X (ix2 r ⟨t * 2048 + l, by omega⟩) = pooledAt A (k0_pay4 (images X t)) ⟨r / 56, by omega⟩ ⟨r % 56, by omega⟩ l := by
  have h1 : (⟨(t * 2048 + l : ℕ) / 2048, by omega⟩ : Fin 16) = t := Fin.ext (by show (t * 2048 + l : ℕ) / 2048 = t; omega)
  have h2 : (⟨(t * 2048 + l : ℕ) % 2048, by omega⟩ : Fin 2048) = l := Fin.ext (by show (t * 2048 + l : ℕ) % 2048 = l; omega)
  show pooledAt A (k0_pay4 (images X ⟨(t * 2048 + l : ℕ) / 2048, by omega⟩)) ⟨r / 56, by omega⟩ ⟨r % 56, by omega⟩ ⟨(t * 2048 + l : ℕ) % 2048, by omega⟩ = _
  rw [h1, h2]

/-- The result array of the second kernel. -/
def fc (q : FVec Ideal S392x32768 .bf16) (w : FVec Ideal S10x392 .bf16) (s t : FVec Ideal S8x2048 .f32) : FVec Ideal S10x32768 .f32 := fun i =>
  ∑ r : Fin 392, w (ix2 (i 0) r) * max (q (ix2 r (i 1)) * s (ix2 ⟨r % 8, by omega⟩ ⟨(i 1 : ℕ) % 2048, by omega⟩) + t (ix2 ⟨r % 8, by omega⟩ ⟨(i 1 : ℕ) % 2048, by omega⟩)) 0

theorem fc_at (q : FVec Ideal S392x32768 .bf16) (w : FVec Ideal S10x392 .bf16) (s t : FVec Ideal S8x2048 .f32) (j : Fin 10) (g : Fin 16) (l : Fin 2048) :
    fc q w s t (ix2 j ⟨g * 2048 + l, by omega⟩)
      = ∑ r : Fin 392, w (ix2 j r) * max (q (ix2 r ⟨g * 2048 + l, by omega⟩) * s (ix2 ⟨r % 8, by omega⟩ l) + t (ix2 ⟨r % 8, by omega⟩ l)) 0 := by
  have h2 : (⟨(g * 2048 + l : ℕ) % 2048, by omega⟩ : Fin 2048) = l := Fin.ext (by show (g * 2048 + l : ℕ) % 2048 = l; omega)
  show (∑ r : Fin 392, w (ix2 j r) * max (q (ix2 r ⟨g * 2048 + l, by omega⟩) * s (ix2 ⟨r % 8, by omega⟩ ⟨(g * 2048 + l : ℕ) % 2048, by omega⟩) + t (ix2 ⟨r % 8, by omega⟩ ⟨(g * 2048 + l : ℕ) % 2048, by omega⟩)) 0) = _
  rw [h2]

section
variable (V : (c : Dev nD) → (b : Ref sig .tc) → Buf (Elt Ideal) ((c : Thread nD τ).loc b))

/-- A grid point of the first kernel as a number below 16. -/
def pt0 (t : Fin cfg0.N) : Fin 16 := ⟨t, N_0 ▸ t.isLt⟩

/-- A grid point of the second kernel as a number below 16. -/
def pt1 (t : Fin cfg1.N) : Fin 16 := ⟨t, N_1 ▸ t.isLt⟩

theorem iblk0_0 (c : Dev nD) (t : Fin cfg0.N) : iblk0 V c 0 t = images (V c main_v1) (pt0 t) := by
  funext y
  unfold images pt0
  blk_ext [iblk0, idx0 t]

theorem iblk0_1 (c : Dev nD) (t : Fin cfg0.N) : iblk0 V c 1 t = V c main_v5 := by
  blk_ext! [iblk0, idx0 t]

theorem emb0_2 (t : Fin cfg0.N) (y : S392x2048.Idx) :
    ((cfg0.win 2).blk t).view.emb y = (ix2 (y 0) ⟨pt0 t * 2048 + (y 1 : ℕ), by have := (y 1).isLt; simp at this; omega⟩ : S392x32768.Idx) := by
  unfold pt0
  blk_ext [idx0 t]

theorem emb0_3 (t : Fin cfg0.N) (y : S1x112x128.Idx) : ((cfg0.win 3).blk t).view.emb y = (ix3 (pt0 t) (y 1) (y 2) : S16x112x128.Idx) := by
  unfold pt0
  blk_ext [idx0 t]

theorem emb0_4 (t : Fin cfg0.N) (y : S1x112x128.Idx) : ((cfg0.win 4).blk t).view.emb y = (ix3 (pt0 t) (y 1) (y 2) : S16x112x128.Idx) := by
  unfold pt0
  blk_ext [idx0 t]

theorem arr0_2 (c : Dev nD) : (dat0 V c).arrAt 2 cfg0.N = pooled (V c main_v5) (V c main_v1) := by
  refine (dat0 V c).arrAt_eq_of_covers 2 _ (by decide +kernel) fun t _ y => ?_
  blk_simp [idx0 t]
  rw [after0_2, iblk0_0, iblk0_1]
  exact (out2_at _ _ y).trans ((pooled_at _ _ (y 0) (pt0 t) (y 1)).symm.trans (congrArg (pooled _ _) (emb0_2 t y).symm))

theorem arr0_3 (c : Dev nD) : (dat0 V c).arrAt 3 cfg0.N = sums (V c main_v5) (V c main_v1) := by
  refine (dat0 V c).arrAt_eq_of_covers 3 _ (by decide +kernel) fun t _ y => ?_
  blk_simp [idx0 t]
  rw [after0_3, iblk0_0, iblk0_1]
  refine Eq.trans ?_ (congrArg (sums _ _) (emb0_3 t y).symm)
  refine congrArg (out0_3 (F := Ideal) _ _) ?_
  blk_ext

theorem arr0_4 (c : Dev nD) : (dat0 V c).arrAt 4 cfg0.N = squares (V c main_v5) (V c main_v1) := by
  refine (dat0 V c).arrAt_eq_of_covers 4 _ (by decide +kernel) fun t _ y => ?_
  blk_simp [idx0 t]
  rw [after0_4, iblk0_0, iblk0_1]
  refine Eq.trans ?_ (congrArg (squares _ _) (emb0_4 t y).symm)
  refine congrArg (out0_4 (F := Ideal) _ _) ?_
  blk_ext

/-- Lane block `t` of the pooled array. -/
def lanes (q : FVec Ideal S392x32768 .bf16) (t : Fin 16) : FVec Ideal S392x2048 .bf16 :=
  fun y => q (ix2 (y 0) ⟨t * 2048 + (y 1 : ℕ), by have := (y 1).isLt; simp at this; omega⟩)

theorem out1_lanes (q : FVec Ideal S392x32768 .bf16) (w : FVec Ideal S10x392 .bf16) (s t : FVec Ideal S8x2048 .f32) (g : Fin 16) (j : Fin 10) (l : Fin 2048) :
    out1_4 (F := Ideal) (lanes q g) w s t (ix2 j l) = fc q w s t (ix2 j ⟨g * 2048 + l, by omega⟩) := by
  rw [out1_at, fc_at]
  rfl

theorem iblk1_0 (c : Dev nD) (t : Fin cfg1.N) : iblk1 V c 0 t = lanes (V c main_v6_0) (pt1 t) := by
  funext y
  unfold lanes pt1
  blk_ext [iblk1, idx1 t]

theorem iblk1_1 (c : Dev nD) (t : Fin cfg1.N) : iblk1 V c 1 t = V c main_v30 := by
  blk_ext! [iblk1, idx1 t]

theorem iblk1_2 (c : Dev nD) (t : Fin cfg1.N) : iblk1 V c 2 t = V c main_v24 := by
  blk_ext! [iblk1, idx1 t]

theorem iblk1_3 (c : Dev nD) (t : Fin cfg1.N) : iblk1 V c 3 t = V c main_v26 := by
  blk_ext! [iblk1, idx1 t]

theorem emb1_4 (t : Fin cfg1.N) (y : S10x2048.Idx) :
    ((cfg1.win 4).blk t).view.emb y = (ix2 (y 0) ⟨pt1 t * 2048 + (y 1 : ℕ), by have := (y 1).isLt; simp at this; omega⟩ : S10x32768.Idx) := by
  unfold pt1
  blk_ext [idx1 t]

theorem arr1_4 (c : Dev nD) : (dat1 V c).arrAt 4 cfg1.N = fc (V c main_v6_0) (V c main_v30) (V c main_v24) (V c main_v26) := by
  refine (dat1 V c).arrAt_eq_of_covers 4 _ (by decide +kernel) fun t _ y => ?_
  blk_simp [idx1 t]
  rw [after1_4, iblk1_0, iblk1_1, iblk1_2, iblk1_3]
  have hy : y = (ix2 (y 0) (y 1) : S10x2048.Idx) := eq_ix2 y
  exact (congrArg (out1_4 (F := Ideal) (lanes (V c main_v6_0) (pt1 t)) (V c main_v30) (V c main_v24) (V c main_v26)) hy).trans
    ((out1_lanes (V c main_v6_0) (V c main_v30) (V c main_v24) (V c main_v26) (pt1 t) (y 0) (y 1)).trans
      (congrArg (fc (V c main_v6_0) (V c main_v30) (V c main_v24) (V c main_v26)) (emb1_4 t y).symm))
end

end Cert.KernelIdeal.Value

end
-- ==== Proof.Reductions.lean ====
/-
  Reductions over several axes at once, read at one result index: two sums that keep the channel axis of a
  rank-4 array, and the maximum over the two within-window axes of a rank-6 array.
-/
module

public import Idealize.ShloMosaic.Lib.Pointwise
public import Idealize.ShloMosaic.Lib.IdealHost

@[expose] public section

set_option maxRecDepth 16384

noncomputable section

namespace Cert.Proof.Reductions

open Idealize.ShloMosaic

/-- A sum over axes 0, 2 and 3 of a rank-4 array, at the kept coordinate `k`. -/
theorem sum_keep1 {n0 n1 n2 n3 : ℕ} (h : (⟨4, ![n0, n1, n2, n3]⟩ : Shape).ReducesTo [0, 2, 3] ⟨1, ![n1]⟩)
    (x : (⟨4, ![n0, n1, n2, n3]⟩ : Shape).Idx → EReal) (z : EReal) (k : Fin n1) :
    Ideal.hostReduceAdd h x z (ix1 k) = z + ∑ a : Fin n0, ∑ b : Fin n2, ∑ d : Fin n3, x (ix4 a k b d) := by
  unfold Ideal.hostReduceAdd
  rw [Finset.sum_filter_eq_sum_of_fiber (fun i => h.drop i = ix1 k)
    (fun q : Fin n0 × Fin n2 × Fin n3 => ix4 q.1 k q.2.1 q.2.2)
    (fun p q e => by
      have e0 : p.1 = q.1 := congrFun e 0
      have e2 : p.2.1 = q.2.1 := congrFun e 2
      have e3 : p.2.2 = q.2.2 := congrFun e 3
      exact Prod.ext e0 (Prod.ext e2 e3))
    (fun i => by
      have hv : (h.drop i 0 : ℕ) = i 1 := Shape.ReducesTo.drop_apply_val h i 0
      constructor
      · intro e
        refine ⟨(i 0, i 2, i 3), ?_⟩
        have hk : k = i 1 := Fin.ext (by rw [← hv, e]; rfl)
        subst hk
        exact (eq_ix4 i).symm
      · rintro ⟨q, rfl⟩
        rw [eq_ix1 (h.drop _)]
        exact congrArg ix1 (Fin.ext hv))]
  simp only [Fintype.sum_prod_type]

/-- A sum over axes 0, 1 and 3 of a rank-4 array, at the kept coordinate `k`. -/
theorem sum_keep2 {n0 n1 n2 n3 : ℕ} (h : (⟨4, ![n0, n1, n2, n3]⟩ : Shape).ReducesTo [0, 1, 3] ⟨1, ![n2]⟩)
    (x : (⟨4, ![n0, n1, n2, n3]⟩ : Shape).Idx → EReal) (z : EReal) (k : Fin n2) :
    Ideal.hostReduceAdd h x z (ix1 k) = z + ∑ a : Fin n0, ∑ b : Fin n1, ∑ d : Fin n3, x (ix4 a b k d) := by
  unfold Ideal.hostReduceAdd
  rw [Finset.sum_filter_eq_sum_of_fiber (fun i => h.drop i = ix1 k)
    (fun q : Fin n0 × Fin n1 × Fin n3 => ix4 q.1 q.2.1 k q.2.2)
    (fun p q e => by
      have e0 : p.1 = q.1 := congrFun e 0
      have e2 : p.2.1 = q.2.1 := congrFun e 1
      have e3 : p.2.2 = q.2.2 := congrFun e 3
      exact Prod.ext e0 (Prod.ext e2 e3))
    (fun i => by
      have hv : (h.drop i 0 : ℕ) = i 2 := Shape.ReducesTo.drop_apply_val h i 0
      constructor
      · intro e
        refine ⟨(i 0, i 1, i 3), ?_⟩
        have hk : k = i 2 := Fin.ext (by rw [← hv, e]; rfl)
        subst hk
        exact (eq_ix4 i).symm
      · rintro ⟨q, rfl⟩
        rw [eq_ix1 (h.drop _)]
        exact congrArg ix1 (Fin.ext hv))]
  simp only [Fintype.sum_prod_type]

/-- The maximum over axes 3 and 5, both of extent 2, of a rank-6 array: started at the least element it is the
    maximum of the four entries of the window. -/
theorem max_window {n0 n1 n2 n4 : ℕ} {u : Shape}
    (h : (⟨6, ![n0, n1, n2, 2, n4, 2]⟩ : Shape).ReducesTo [3, 5] ⟨4, ![n0, n1, n2, n4]⟩)
    (hu : 0 < u.numel) (x : (⟨6, ![n0, n1, n2, 2, n4, 2]⟩ : Shape).Idx → EReal) (z : u.Idx → EReal)
    (hz : z (Shape.Idx.first hu) = ⊥) (a : Fin n0) (b : Fin n1) (c : Fin n2) (d : Fin n4) :
    Host.reduce (max : EReal → EReal → EReal) x z h hu (ix4 a b c d)
      = max (max (x (ix6 a b c 0 d 0)) (x (ix6 a b c 1 d 0))) (max (x (ix6 a b c 0 d 1)) (x (ix6 a b c 1 d 1))) := by
  rw [Host.reduce_eq_fold, hz,
    Finset.fold_filter_eq_fold_of_fiber max (fun i => h.drop i = ix4 a b c d)
    (fun q : Fin 2 × Fin 2 => ix6 a b c q.1 d q.2)
    (fun p q e => by
      have e0 : p.1 = q.1 := congrFun e 3
      have e2 : p.2 = q.2 := congrFun e 5
      exact Prod.ext e0 e2)
    (fun i => by
      have hv0 : (h.drop i 0 : ℕ) = i 0 := Shape.ReducesTo.drop_apply_val h i 0
      have hv1 : (h.drop i 1 : ℕ) = i 1 := Shape.ReducesTo.drop_apply_val h i 1
      have hv2 : (h.drop i 2 : ℕ) = i 2 := Shape.ReducesTo.drop_apply_val h i 2
      have hv3 : (h.drop i 3 : ℕ) = i 4 := Shape.ReducesTo.drop_apply_val h i 3
      constructor
      · intro e
        refine ⟨(i 3, i 5), ?_⟩
        have ha : a = i 0 := Fin.ext (by rw [← hv0, e]; rfl)
        have hb : b = i 1 := Fin.ext (by rw [← hv1, e]; rfl)
        have hc : c = i 2 := Fin.ext (by rw [← hv2, e]; rfl)
        have hd : d = i 4 := Fin.ext (by rw [← hv3, e]; rfl)
        subst ha hb hc hd
        exact (eq_ix6 i).symm
      · rintro ⟨q, rfl⟩
        rw [eq_ix4 (h.drop _)]
        have e0 : h.drop (ix6 a b c q.1 d q.2) 0 = a := Fin.ext hv0
        have e1 : h.drop (ix6 a b c q.1 d q.2) 1 = b := Fin.ext hv1
        have e2 : h.drop (ix6 a b c q.1 d q.2) 2 = c := Fin.ext hv2
        have e3 : h.drop (ix6 a b c q.1 d q.2) 3 = d := Fin.ext hv3
        rw [e0, e1, e2, e3])]
  have hun : (Finset.univ : Finset (Fin 2 × Fin 2)) = {(0, 0), (1, 0), (0, 1), (1, 1)} := by decide
  rw [hun, Finset.fold_insert (by decide), Finset.fold_insert (by decide), Finset.fold_insert (by decide),
    Finset.fold_singleton]
  simp only [max_bot_right, max_assoc]

end Cert.Proof.Reductions

end
-- ==== Proof.HostSide.lean ====
/-
  The kernel's host operations read at an index: the two arrays the first kernel takes, the scale and shift from the
  sums, the weights of the second kernel, and the result.
-/
module

public import proofs.«01_k».proof.Proof.Regions
public import proofs.«01_k».proof.Proof.Reductions
public import Idealize.ShloMosaic.Lib.StableHlo.ReadAt
public import Idealize.ShloMosaic.Lib.IdealHost

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ) (ρ : Dev nD → PrngReg) (c : Dev nD)

/-- The image array the first kernel takes: pixels by rows, images along the lanes. -/
theorem v1_at (r : Fin 784) (z : Fin 1) (b : Fin 32768) :
    (V1 m ρ c main_v1 : FVec Ideal S784x1x32768 .f32) (ix3 r z b)
      = (m ((c : Thread nD τ).loc main_arg0) : FVec Ideal S32768x1x28x28 .f32) (ix4 b 0 ⟨r / 28, by omega⟩ ⟨r % 28, by omega⟩) := by
  unfold V1 W1
  after_reads_at

/-- The weight matrix the first kernel takes: column `k` is pixel `k % 28` of image row `k / 28` of three, row `p` is
    channel `p % 8` at output column `p / 8`; the selector picks the tap that meets the pixel. -/
theorem v5_at (p : Fin 112) (k : Fin 84) :
    (V1 m ρ c main_v5 : FVec Ideal S112x84 .f32) (ix2 p k)
      = ∑ x : Fin 3, Ideal.ofBits FTy.f32 (lit0 (S3x28x14.rowMajor (ix3 x ⟨k % 28, by omega⟩ ⟨p / 8, by omega⟩)))
          * (m ((c : Thread nD τ).loc main_arg1) : FVec Ideal S8x1x3x3 .f32) (ix4 ⟨p % 8, by omega⟩ 0 ⟨k / 28, by omega⟩ x) := by
  unfold V1 W1
  after_reads_at

/-- The sum of channel `k` of an array of partial sums. -/
def total (s : FVec Ideal S16x112x128 .f32) (k : Fin 8) : EReal :=
  ∑ g : Fin 16, ∑ o : Fin 14, ∑ l : Fin 128, s (ix3 g ⟨o * 8 + k, by omega⟩ l)

/-- The mean of channel `k`. -/
def mean (s : FVec Ideal S16x112x128 .f32) (k : Fin 8) : EReal := Ideal.div (total s k) (Ideal.ofBits .f32 0x4AC40000#32)

/-- The scale of channel `k` from the sums and the sums of squares. -/
def scale (g : FVec Ideal S8 .f32) (s q : FVec Ideal S16x112x128 .f32) (k : Fin 8) : EReal :=
  g (ix1 k) * Ideal.rsqrt (mean q k - mean s k * mean s k + Ideal.ofBits .f32 0x3727C5AC#32)

/-- The shift of channel `k`. -/
def shift (g b : FVec Ideal S8 .f32) (s q : FVec Ideal S16x112x128 .f32) (k : Fin 8) : EReal :=
  b (ix1 k) - mean s k * scale g s q k

theorem total_eq (s : FVec Ideal S16x112x128 .f32) (k : Fin 8) :
    Ideal.hostReduceAdd reducesTo_S16x14x8x128_S8_d0_1_3
      (fun i => s (ix3 (i 0) ⟨(i 1 : ℕ) * 8 + (i 2 : ℕ), by have := (i 1).isLt; have := (i 2).isLt; simp at *; omega⟩ (i 3))) 0 (ix1 k) = total s k :=
  (Cert.Proof.Reductions.sum_keep2 _ _ 0 k).trans (zero_add _)

theorem v24_at (k : Fin 8) (l : Fin 2048) :
    (V3 m ρ c main_v24 : FVec Ideal S8x2048 .f32) (ix2 k l)
      = scale (W2 m ρ c (Proc.devRef .tc main_arg3)) (W2 m ρ c (Proc.devRef .tc main_v6_1)) (W2 m ρ c (Proc.devRef .tc main_v6_2)) k := by
  unfold V3 W3
  after_reads_at
  unfold scale mean
  rw [← total_eq, ← total_eq]
  rfl

theorem v26_at (k : Fin 8) (l : Fin 2048) :
    (V3 m ρ c main_v26 : FVec Ideal S8x2048 .f32) (ix2 k l)
      = shift (W2 m ρ c (Proc.devRef .tc main_arg3)) (W2 m ρ c (Proc.devRef .tc main_arg4)) (W2 m ρ c (Proc.devRef .tc main_v6_1)) (W2 m ρ c (Proc.devRef .tc main_v6_2)) k := by
  unfold V3 W3
  after_reads_at
  unfold shift scale mean
  rw [← total_eq, ← total_eq]
  rfl

theorem v30_at (j : Fin 10) (r : Fin 392) :
    (V3 m ρ c main_v30 : FVec Ideal S10x392 .bf16) (ix2 j r)
      = (W2 m ρ c (Proc.devRef .tc main_arg5) : FVec Ideal S10x392 .f32) (ix2 j ⟨r % 8 * 49 + r / 56 * 7 + r / 8 % 7, by omega⟩) := by
  unfold V3 W3
  after_reads_at

theorem v35_at (b : Fin 32768) (j : Fin 10) :
    (W5 m ρ c (Proc.devRef .tc main_v35) : FVec Ideal S32768x10 .f32) (ix2 b j)
      = HAdd.hAdd (α := EReal) (β := EReal) ((W4 m ρ c (Proc.devRef .tc main_v31) : FVec Ideal S10x32768 .f32) (ix2 j b)) ((W4 m ρ c (Proc.devRef .tc main_arg6) : FVec Ideal S10 .f32) (ix1 j)) := by
  unfold W5
  after_reads_at

/-- The kernel's result at image `b` and class `j`, over its arguments and the first kernel's three arrays. -/
def result (q : FVec Ideal S392x32768 .bf16) (s t : FVec Ideal S16x112x128 .f32) (g be : FVec Ideal S8 .f32) (w : FVec Ideal S10x392 .f32) (bi : FVec Ideal S10 .f32)
    (b : Fin 32768) (j : Fin 10) : EReal :=
  (∑ r : Fin 392, w (ix2 j ⟨r % 8 * 49 + r / 56 * 7 + r / 8 % 7, by omega⟩)
      * max (q (ix2 r b) * scale g s t ⟨r % 8, by omega⟩ + shift g be s t ⟨r % 8, by omega⟩) 0) + bi (ix1 j)

theorem result_at (b : Fin 32768) (j : Fin 10) :
    (W5 m ρ c (Proc.devRef .tc main_v35) : FVec Ideal S32768x10 .f32) (ix2 b j)
      = result (pooled (V1 m ρ c main_v5) (V1 m ρ c main_v1)) (sums (V1 m ρ c main_v5) (V1 m ρ c main_v1)) (squares (V1 m ρ c main_v5) (V1 m ρ c main_v1))
          (m ((c : Thread nD τ).loc main_arg3)) (m ((c : Thread nD τ).loc main_arg4)) (m ((c : Thread nD τ).loc main_arg5)) (m ((c : Thread nD τ).loc main_arg6)) b j := by
  have a3 : W2 m ρ c (Proc.devRef .tc main_arg3) = m ((c : Thread nD τ).loc main_arg3) := W2_args m ρ c _ (by decide)
  have a4 : W2 m ρ c (Proc.devRef .tc main_arg4) = m ((c : Thread nD τ).loc main_arg4) := W2_args m ρ c _ (by decide)
  have a5 : W2 m ρ c (Proc.devRef .tc main_arg5) = m ((c : Thread nD τ).loc main_arg5) := W2_args m ρ c _ (by decide)
  have a6 : W4 m ρ c (Proc.devRef .tc main_arg6) = m ((c : Thread nD τ).loc main_arg6) := W4_args m ρ c _ (by decide)
  have e31 : W4 m ρ c (Proc.devRef .tc main_v31) = _ := (W4_arr m ρ c 4).trans (arr1_4 (V3 m ρ) c)
  have e0 : V3 m ρ c main_v6_0 = _ := (W3_of m ρ c main_v6_0 (by decide)).trans ((W2_arr m ρ c 2).trans (arr0_2 (V1 m ρ) c))
  have e1 : W2 m ρ c (Proc.devRef .tc main_v6_1) = _ := (W2_arr m ρ c 3).trans (arr0_3 (V1 m ρ) c)
  have e2 : W2 m ρ c (Proc.devRef .tc main_v6_2) = _ := (W2_arr m ρ c 4).trans (arr0_4 (V1 m ρ) c)
  refine (v35_at m ρ c b j).trans ?_
  rw [e31, a6, e0]
  unfold result
  refine congrArg₂ (· + ·) (Finset.sum_congr rfl fun r _ => ?_) rfl
  refine congrArg₂ (· * ·) ((v30_at m ρ c j r).trans (congrFun a5 _)) (congrArg₂ max (congrArg₂ (· + ·) (congrArg₂ (· * ·) rfl ?_) ?_) rfl)
  · refine (v24_at m ρ c _ _).trans ?_
    rw [a3, e1, e2]
  · refine (v26_at m ρ c _ _).trans ?_
    rw [a3, a4, e1, e2]

end Cert.KernelIdeal.Value

end
-- ==== Proof.RealMath.lean ====
/-
  The real and extended-real mathematics of the equation, free of both programs: the variance of shifted values,
  and the normalisation that commutes with the maximum over a window.
-/
module

public import Idealize.ShloMosaic.Lib.Pointwise
public import Idealize.ShloMosaic.Lib.IdealHost

@[expose] public section

noncomputable section

namespace Cert.Proof.RealMath

open Idealize.ShloMosaic

/-- A finite sum of reals, read in the extended reals. -/
theorem coe_sum {ι : Type*} (s : Finset ι) (f : ι → ℝ) : ((∑ i ∈ s, f i : ℝ) : EReal) = ∑ i ∈ s, (f i : EReal) :=
  map_sum (⟨⟨fun r : ℝ => (r : EReal), EReal.coe_zero⟩, EReal.coe_add⟩ : ℝ →+ EReal) f s

/-- Division of a real by a nonzero real. -/
theorem div_coe_coe (a b : ℝ) (hb : b ≠ 0) : Ideal.div (a : EReal) (b : EReal) = ((a / b : ℝ) : EReal) := by
  rw [Ideal.div_coe hb, ← EReal.coe_mul, mul_one_div]

/-- The mean of shifted values is the shifted mean. -/
theorem mean_shift {ι : Type*} [Fintype ι] (f : ι → ℝ) (b n : ℝ) (hn : n ≠ 0) (hc : (Fintype.card ι : ℝ) = n) :
    (∑ i, (f i + b)) / n = (∑ i, f i) / n + b := by
  rw [Finset.sum_add_distrib, Finset.sum_const, Finset.card_univ, nsmul_eq_mul, hc]
  field_simp

/-- The mean squared deviation of shifted values is the mean square less the square of the mean. -/
theorem var_shift {ι : Type*} [Fintype ι] (f : ι → ℝ) (b n : ℝ) (hn : n ≠ 0) (hc : (Fintype.card ι : ℝ) = n) :
    (∑ i, ((f i + b) - ((∑ i, f i) / n + b)) * ((f i + b) - ((∑ i, f i) / n + b))) / n
      = (∑ i, f i * f i) / n - (∑ i, f i) / n * ((∑ i, f i) / n) := by
  have e : ∀ i, ((f i + b) - ((∑ i, f i) / n + b)) * ((f i + b) - ((∑ i, f i) / n + b))
      = f i * f i - 2 * ((∑ i, f i) / n) * f i + (∑ i, f i) / n * ((∑ i, f i) / n) := fun i => by ring
  rw [Finset.sum_congr rfl fun i _ => e i, Finset.sum_add_distrib, Finset.sum_sub_distrib, ← Finset.mul_sum,
    Finset.sum_const, Finset.card_univ, nsmul_eq_mul, hc]
  field_simp
  ring

/-- The mean square less the square of the mean is not negative. -/
theorem var_nonneg {ι : Type*} [Fintype ι] (f : ι → ℝ) (n : ℝ) (hn : 0 < n) (hc : (Fintype.card ι : ℝ) = n) :
    0 ≤ (∑ i, f i * f i) / n - (∑ i, f i) / n * ((∑ i, f i) / n) := by
  rw [← var_shift f 0 n hn.ne' hc]
  exact div_nonneg (Finset.sum_nonneg fun i _ => mul_self_nonneg _) hn.le

/-- The reciprocal square root of a positive real is a real, and not negative. -/
theorem rsqrt_coe (v : ℝ) (hv : 0 < v) : ∃ r : ℝ, 0 ≤ r ∧ Ideal.rsqrt (v : EReal) = (r : EReal) := by
  refine ⟨(√v)⁻¹, inv_nonneg.2 (Real.sqrt_nonneg v), ?_⟩
  show (if v < 0 then (⊥ : EReal) else if v = 0 then ⊤ else (((√v)⁻¹ : ℝ) : EReal)) = _
  rw [if_neg (not_lt.2 hv.le), if_neg hv.ne']

/-- One normalised value: centring, scaling and shifting a real `y + b` about the mean `μ + b` is the affine map
    with slope `g * r` and offset `β - μ * (g * r)`, whatever extended real `β` is. -/
theorem affine_eq (g r y μ b : ℝ) (β : EReal) :
    (g : EReal) * ((((y : EReal) + (b : EReal)) - (((μ + b : ℝ)) : EReal)) * (r : EReal)) + β
      = (y : EReal) * ((g : EReal) * (r : EReal)) + (β - (μ : EReal) * ((g : EReal) * (r : EReal))) := by
  rw [← EReal.coe_mul, ← EReal.coe_mul, ← EReal.coe_mul, ← EReal.coe_add, ← EReal.coe_sub, ← EReal.coe_mul, ← EReal.coe_mul,
    sub_eq_add_neg β, ← EReal.coe_neg, add_comm β, ← add_assoc, ← EReal.coe_add]
  congr 2
  ring

/-- An increasing affine map followed by a maximum with zero commutes with the maximum of two reals. -/
theorem affine_max (s : ℝ) (hs : 0 ≤ s) (t : EReal) (a b : ℝ) :
    max ((max (a : EReal) (b : EReal)) * (s : EReal) + t) 0
      = max (max ((a : EReal) * (s : EReal) + t) 0) (max ((b : EReal) * (s : EReal) + t) 0) := by
  have hmono : Monotone fun y : ℝ => max ((y : EReal) * (s : EReal) + t) 0 := fun p q hpq =>
    max_le_max (add_le_add_left (by
      rw [← EReal.coe_mul, ← EReal.coe_mul]
      exact EReal.coe_le_coe_iff.2 (mul_le_mul_of_nonneg_right hpq hs)) t) le_rfl
  have := hmono.map_max (a := a) (b := b)
  have hc : ((max a b : ℝ) : EReal) = max (a : EReal) (b : EReal) := EReal.coe_strictMono.monotone.map_max
  simpa only [hc] using this

end Cert.Proof.RealMath

end
-- ==== Proof.Conv.lean ====
/-
  The convolution over the reals: nine taps with stride two over an image with a border of zeros one pixel wide; and
  two facts about sums, one that picks a pixel by a selector, one that splits the images into blocks.
-/
module

public import Idealize.ShloMosaic.Lib.Pointwise
public import Idealize.ShloMosaic.Lib.IdealHost
public import proofs.«01_k».proof.Proof.RealMath

@[expose] public section

set_option maxRecDepth 16384

noncomputable section

namespace Cert.Proof.Conv

open Idealize.ShloMosaic

/-- The images' shape. -/
abbrev SX : Shape := ⟨4, ![32768, 1, 28, 28]⟩
/-- The filters' shape. -/
abbrev SW : Shape := ⟨4, ![8, 1, 3, 3]⟩

/-- Pixel `(r, c)` of image `b` with its border: row and column 0 and everything past 28 are zero. -/
def px (x : SX.Idx → ℝ) (b : Fin 32768) (r c : ℕ) : ℝ :=
  if h : (1 ≤ r ∧ r - 1 < 28) ∧ (1 ≤ c ∧ c - 1 < 28) then x (ix4 b 0 ⟨r - 1, h.1.2⟩ ⟨c - 1, h.2.2⟩) else 0

/-- The convolution of image `b` by filter `k` at row `oh` and column `ow`. -/
def cv (x : SX.Idx → ℝ) (w : SW.Idx → ℝ) (b : Fin 32768) (k : Fin 8) (oh ow : Fin 14) : ℝ :=
  ∑ d : Fin 3, ∑ e : Fin 3, px x b (2 * oh + d) (2 * ow + e) * w (ix4 k 0 d e)

/-- A guarded read that agrees with the bordered image. -/
theorem tap (x : SX.Idx → ℝ) (b : Fin 32768) (r c : ℕ) {P : Prop} [Decidable P] (i j : P → Fin 28)
    (hP : P ↔ (1 ≤ r ∧ r - 1 < 28) ∧ (1 ≤ c ∧ c - 1 < 28)) (hi : ∀ p, (i p : ℕ) = r - 1) (hj : ∀ p, (j p : ℕ) = c - 1) :
    (if h : P then ((x (ix4 b 0 (i h) (j h)) : ℝ) : EReal) else 0) = ((px x b r c : ℝ) : EReal) := by
  unfold px
  by_cases h : P
  · have h' := hP.1 h
    rw [dif_pos h, dif_pos h']
    have e1 : i h = ⟨r - 1, h'.1.2⟩ := Fin.ext (hi h)
    have e2 : j h = ⟨c - 1, h'.2.2⟩ := Fin.ext (hj h)
    rw [e1, e2]
  · rw [dif_neg h, dif_neg fun h' => h (hP.2 h')]
    rfl

/-- The selector of column `n` picks that pixel of a row. -/
theorem select_px (x : SX.Idx → ℝ) (b : Fin 32768) (r n : ℕ) :
    ∑ i : Fin 28, (if (i : ℕ) + 1 = n then (1 : ℝ) else 0) * px x b r (i + 1) = px x b r n := by
  by_cases h : 1 ≤ n ∧ n - 1 < 28
  · rw [Finset.sum_eq_single (⟨n - 1, h.2⟩ : Fin 28)]
    · have e : n - 1 + 1 = n := by omega
      show (if n - 1 + 1 = n then (1 : ℝ) else 0) * px x b r (n - 1 + 1) = _
      rw [e, if_pos rfl, one_mul]
    · intro i _ hi
      rw [if_neg, zero_mul]
      intro e
      exact hi (Fin.ext (by show (i : ℕ) = n - 1; omega))
    · intro hn
      exact absurd (Finset.mem_univ _) hn
  · have e : px x b r n = 0 := by
      unfold px
      rw [dif_neg fun h' => h h'.2]
    rw [e]
    refine Finset.sum_eq_zero fun i _ => ?_
    rw [if_neg, zero_mul]
    intro e
    exact h (by omega)

/-- One convolution value as the contraction over three image rows of 28 pixels with the selected taps. -/
theorem cv_select (x : SX.Idx → ℝ) (w : SW.Idx → ℝ) (b : Fin 32768) (k : Fin 8) (oh ow : Fin 14) :
    ∑ d : Fin 3, ∑ i : Fin 28, (∑ e : Fin 3, (if (i : ℕ) + 1 = 2 * ow + e then (1 : ℝ) else 0) * w (ix4 k 0 d e)) * px x b (2 * oh + d) (i + 1)
      = cv x w b k oh ow := by
  unfold cv
  refine Finset.sum_congr rfl fun d _ => ?_
  simp only [Finset.sum_mul]
  rw [Finset.sum_comm]
  refine Finset.sum_congr rfl fun e _ => ?_
  rw [← select_px x b (2 * oh + d) (2 * ow + e), Finset.sum_mul]
  exact Finset.sum_congr rfl fun i _ => by ring

/-- The images by blocks of 2048, each by sixteen groups of 128. -/
theorem sum_images {M : Type*} [AddCommMonoid M] (f : Fin 32768 → M) :
    ∑ b, f b = ∑ g : Fin 16, ∑ G : Fin 16, ∑ l : Fin 128, f ⟨g * 2048 + (G * 128 + l), by omega⟩ := by
  rw [Fin.sum_univ_tiles 16 2048 rfl f]
  refine Finset.sum_congr rfl fun g _ => ?_
  rw [Fin.sum_univ_tiles 16 128 rfl]

/-- The sum over blocks, columns, lanes, groups and rows is the sum over images, rows and columns. -/
theorem sum_blocks (f : Fin 32768 → Fin 14 → Fin 14 → ℝ) :
    ∑ g : Fin 16, ∑ ow : Fin 14, ∑ l : Fin 128, ∑ G : Fin 16, ∑ oh : Fin 14, f ⟨g * 2048 + (G * 128 + l), by omega⟩ oh ow
      = ∑ q : Fin 32768 × Fin 14 × Fin 14, f q.1 q.2.1 q.2.2 := by
  rw [Fintype.sum_prod_type]
  simp only [Fintype.sum_prod_type]
  rw [sum_images fun b => ∑ oh, ∑ ow, f b oh ow]
  refine Finset.sum_congr rfl fun g _ => ?_
  rw [Finset.sum_comm]
  rw [Finset.sum_comm (s := (Finset.univ : Finset (Fin 16)))]
  refine Finset.sum_congr rfl fun l _ => ?_
  rw [Finset.sum_comm]
  refine Finset.sum_congr rfl fun G _ => ?_
  exact Finset.sum_comm

/-- The digits of a number written with seven, seven and eight. -/
theorem digits (k i j : ℕ) (hi : i < 7) (hj : j < 7) :
    (k * 49 + i * 7 + j) / 49 = k ∧ (k * 49 + i * 7 + j) / 7 % 7 = i ∧ (k * 49 + i * 7 + j) % 7 = j :=
  ⟨by omega, by omega, by omega⟩

/-- The digits of a number written with seven, seven and eight, the eight last. -/
theorem digits' (k i j : ℕ) (hk : k < 8) (hj : j < 7) :
    (i * 56 + j * 8 + k) % 8 = k ∧ (i * 56 + j * 8 + k) / 56 = i ∧ (i * 56 + j * 8 + k) / 8 % 7 = j :=
  ⟨by omega, by omega, by omega⟩

/-- The pooled rows in the kernel's order and in the reference's order. -/
theorem sum_pooled {M : Type*} [AddCommMonoid M] (f : Fin 8 → Fin 7 → Fin 7 → Fin 392 → M) :
    ∑ r : Fin 392, f ⟨r % 8, by omega⟩ ⟨r / 56, by omega⟩ ⟨r / 8 % 7, by omega⟩ ⟨r % 8 * 49 + r / 56 * 7 + r / 8 % 7, by omega⟩
      = ∑ q : Fin 392, f ⟨q / 49, by omega⟩ ⟨q / 7 % 7, by omega⟩ ⟨q % 7, by omega⟩ q := by
  refine Finset.sum_nbij' (fun r => ⟨r % 8 * 49 + r / 56 * 7 + r / 8 % 7, by omega⟩) (fun q => ⟨q / 7 % 7 * 56 + q % 7 * 8 + q / 49, by omega⟩)
    (fun _ _ => Finset.mem_univ _) (fun _ _ => Finset.mem_univ _) ?_ ?_ ?_
  · intro r _
    obtain ⟨h1, h2, h3⟩ := digits (r % 8) (r / 56) (r / 8 % 7) (by omega) (by omega)
    refine Fin.ext ?_
    dsimp only
    rw [h1, h2, h3]
    omega
  · intro q _
    obtain ⟨h1, h2, h3⟩ := digits' (q / 49) (q / 7 % 7) (q % 7) (by omega) (by omega)
    refine Fin.ext ?_
    dsimp only
    rw [h1, h2, h3]
    omega
  · intro r _
    obtain ⟨h1, h2, h3⟩ := digits (r % 8) (r / 56) (r / 8 % 7) (by omega) (by omega)
    dsimp only
    simp only [h1, h2, h3]

/-- The number of values a channel has. -/
theorem card_values : (Fintype.card (Fin 32768 × Fin 14 × Fin 14) : ℝ) = 6422528 := by
  simp only [Fintype.card_prod, Fintype.card_fin]
  norm_num

theorem ofBits_count : Ideal.ofBits .f32 0x4AC40000#32 = ((6422528 : ℝ) : EReal) := by
  simp [Ideal.ofBits, Ideal.ieee, -EReal.coe_mul]
  norm_num

theorem ofBits_eps : ∃ e : ℝ, 0 < e ∧ Ideal.ofBits .f32 0x3727C5AC#32 = (e : EReal) := by
  refine ⟨_, ?_, by simp [Ideal.ofBits, Ideal.ieee, -EReal.coe_mul]; rfl⟩
  norm_num

theorem ofBits_neg_inf : Ideal.ofBits .f32 0xFF800000#32 = ⊥ := by
  simp [Ideal.ofBits, Ideal.ieee]

end Cert.Proof.Conv

end
-- ==== Proof.KernelReal.lean ====
/-
  The kernel's arrays on real images and filters: a row of the first kernel is the convolution, the pooled array is its
  maximum over each window, and the sums are its sums over all images, rows and columns.
-/
module

public import proofs.«01_k».proof.Proof.HostSide
public import proofs.«01_k».proof.Proof.Conv

@[expose] public section

set_option maxRecDepth 16384

noncomputable section

namespace Cert.KernelIdeal.Value

open Idealize.ShloMosaic Idealize.ShloMosaic.TcCoe Idealize.SL.Sem
open Cert.KernelIdeal Cert.KernelIdeal.Gen
open Cert.Proof Cert.Proof.Conv

/-- The selector is one where the pixel meets the tap, zero elsewhere. -/
theorem selector : ∀ (e : Fin 3) (i : Fin 28) (ow : Fin 14),
    lit0 (S3x28x14.rowMajor (ix3 e i ow)) = if (i : ℕ) + 1 = 2 * ow + e then 0x3F800000#32 else 0x00000000#32 := by
  decide +kernel

theorem selector_val (e : Fin 3) (i : Fin 28) (ow : Fin 14) :
    Ideal.ofBits FTy.f32 (lit0 (S3x28x14.rowMajor (ix3 e i ow))) = (((if (i : ℕ) + 1 = 2 * ow + e then (1 : ℝ) else 0) : ℝ) : EReal) := by
  rw [selector]
  by_cases h : (i : ℕ) + 1 = 2 * ow + e
  · rw [if_pos h, if_pos h, Ideal.ofBits_one_f32, EReal.coe_one]
  · rw [if_neg h, if_neg h, Ideal.ofBits_zero_f32, EReal.coe_zero]

variable (x : SX.Idx → ℝ) (w : SW.Idx → ℝ) (A : FVec Ideal S112x84 .f32) (X : FVec Ideal S784x1x32768 .f32)

/-- The images as the first kernel takes them. -/
def IsImages : Prop := ∀ (r : Fin 784) (z : Fin 1) (b : Fin 32768),
  X (ix3 r z b) = ((x (ix4 b 0 ⟨r / 28, by omega⟩ ⟨r % 28, by omega⟩) : ℝ) : EReal)

/-- The filters as the first kernel takes them. -/
def IsFilters : Prop := ∀ (p : Fin 112) (k : Fin 84),
  A (ix2 p k) = ∑ e : Fin 3, Ideal.ofBits FTy.f32 (lit0 (S3x28x14.rowMajor (ix3 e ⟨k % 28, by omega⟩ ⟨p / 8, by omega⟩)))
    * ((w (ix4 ⟨p % 8, by omega⟩ 0 ⟨k / 28, by omega⟩ e) : ℝ) : EReal)

variable {x w A X}

/-- A weight as a real number. -/
theorem filter_at (hA : IsFilters w A) (k : Fin 8) (ow : Fin 14) (d : Fin 3) (i : Fin 28) :
    A (ix2 ⟨ow * 8 + k, by omega⟩ ⟨d * 28 + i, by omega⟩)
      = ((∑ e : Fin 3, (if (i : ℕ) + 1 = 2 * ow + e then (1 : ℝ) else 0) * w (ix4 k 0 d e) : ℝ) : EReal) := by
  rw [hA, RealMath.coe_sum]
  refine Finset.sum_congr rfl fun e _ => ?_
  have e1 : (⟨(d * 28 + i : ℕ) % 28, by omega⟩ : Fin 28) = i := Fin.ext (by show (d * 28 + i : ℕ) % 28 = i; omega)
  have e2 : (⟨(ow * 8 + k : ℕ) / 8, by omega⟩ : Fin 14) = ow := Fin.ext (by show (ow * 8 + k : ℕ) / 8 = ow; omega)
  have e3 : (⟨(ow * 8 + k : ℕ) % 8, by omega⟩ : Fin 8) = k := Fin.ext (by show (ow * 8 + k : ℕ) % 8 = k; omega)
  have e4 : (⟨(d * 28 + i : ℕ) / 28, by omega⟩ : Fin 3) = d := Fin.ext (by show (d * 28 + i : ℕ) / 28 = d; omega)
  dsimp only
  rw [e1, e2, e3, e4, selector_val, EReal.coe_mul]

/-- A padded pixel as a pixel of the bordered image. -/
theorem pixel_at (hX : IsImages x X) (b : Fin 32768) (oh : Fin 14) (d : Fin 3) (i : Fin 28) :
    (if h : 56 * (oh : ℕ) + (d * 28 + i) < 28 then (0 : EReal) else X (ix3 ⟨56 * oh + (d * 28 + i) - 28, by omega⟩ 0 b))
      = ((px x b (2 * oh + d) (i + 1) : ℝ) : EReal) := by
  unfold px
  by_cases h : 56 * (oh : ℕ) + (d * 28 + i) < 28
  · rw [dif_pos h, dif_neg (by omega), EReal.coe_zero]
  · rw [dif_neg h, dif_pos (by omega), hX]
    have e1 : (⟨(56 * oh + (d * 28 + i) - 28 : ℕ) / 28, by omega⟩ : Fin 28) = ⟨2 * oh + d - 1, by omega⟩ :=
      Fin.ext (by show (56 * oh + (d * 28 + i) - 28 : ℕ) / 28 = 2 * oh + d - 1; omega)
    have e2 : (⟨(56 * oh + (d * 28 + i) - 28 : ℕ) % 28, by omega⟩ : Fin 28) = ⟨i + 1 - 1, by omega⟩ :=
      Fin.ext (by show (56 * oh + (d * 28 + i) - 28 : ℕ) % 28 = i + 1 - 1; omega)
    dsimp only
    rw [e1, e2]

/-- One row of the first kernel is the convolution. -/
theorem row_real (hX : IsImages x X) (hA : IsFilters w A) {o p : ℕ} (ho : o + 84 ≤ 812) (hp : p < 112) (b : Fin 32768) (k : Fin 8) (oh ow : Fin 14)
    (eo : o = 56 * oh) (ep : p = ow * 8 + k) : row A X o ho ⟨p, hp⟩ b = ((cv x w b k oh ow : ℝ) : EReal) := by
  subst eo ep
  unfold row
  rw [Fin.sum_univ_tiles 3 28 rfl, ← cv_select, RealMath.coe_sum]
  refine Finset.sum_congr rfl fun d _ => ?_
  rw [RealMath.coe_sum]
  refine Finset.sum_congr rfl fun i _ => ?_
  rw [EReal.coe_mul, ← filter_at hA k ow d i, ← pixel_at hX b oh d i]

/-- The convolution value of one row inside image block `t`. -/
theorem E_real (hX : IsImages x X) (hA : IsFilters w A) {o p : ℕ} (ho : o + 84 ≤ 812) (hp : p < 112) (t : Fin 16) (l : Fin 2048) (k : Fin 8) (oh ow : Fin 14)
    (eo : o = 56 * oh) (ep : p = ow * 8 + k) :
    E A (k0_pay4 (images X t)) o ho ⟨p, hp⟩ l = ((cv x w ⟨t * 2048 + l, by omega⟩ k oh ow : ℝ) : EReal) :=
  (E_images A X t o ho ⟨p, hp⟩ l).trans (row_real hX hA ho hp _ k oh ow eo ep)

/-- The pooled array is the maximum of the convolution over a window. -/
theorem pooled_real (hX : IsImages x X) (hA : IsFilters w A) (r : Fin 392) (b : Fin 32768) (k : Fin 8) (i j : Fin 7)
    (hk : (r : ℕ) % 8 = k) (hi : (r : ℕ) / 56 = i) (hj : (r : ℕ) / 8 % 7 = j) :
    pooled A X (ix2 r b)
      = max (max ((cv x w b k ⟨i * 2, by omega⟩ ⟨j * 2, by omega⟩ : ℝ) : EReal) ((cv x w b k ⟨i * 2 + 1, by omega⟩ ⟨j * 2, by omega⟩ : ℝ) : EReal))
        (max ((cv x w b k ⟨i * 2, by omega⟩ ⟨j * 2 + 1, by omega⟩ : ℝ) : EReal) ((cv x w b k ⟨i * 2 + 1, by omega⟩ ⟨j * 2 + 1, by omega⟩ : ℝ) : EReal)) := by
  have hb : b = ⟨(⟨b / 2048, by omega⟩ : Fin 16) * 2048 + (⟨b % 2048, by omega⟩ : Fin 2048), by dsimp only; omega⟩ := Fin.ext (by dsimp only; omega)
  have e := pooled_at A X r ⟨b / 2048, by omega⟩ ⟨b % 2048, by omega⟩
  rw [← hb] at e
  rw [e]
  unfold pooledAt
  rw [E_real hX hA _ _ _ _ k ⟨i * 2, by omega⟩ ⟨j * 2, by omega⟩ (by dsimp only; omega) (by dsimp only; omega),
    E_real hX hA _ _ _ _ k ⟨i * 2 + 1, by omega⟩ ⟨j * 2, by omega⟩ (by dsimp only; omega) (by dsimp only; omega),
    E_real hX hA _ _ _ _ k ⟨i * 2, by omega⟩ ⟨j * 2 + 1, by omega⟩ (by dsimp only; omega) (by dsimp only; omega),
    E_real hX hA _ _ _ _ k ⟨i * 2 + 1, by omega⟩ ⟨j * 2 + 1, by omega⟩ (by dsimp only; omega) (by dsimp only; omega), ← hb]

/-- The total of channel `k` is the sum of the convolution over all images, rows and columns. -/
theorem total_sums (hX : IsImages x X) (hA : IsFilters w A) (k : Fin 8) :
    total (sums A X) k = ((∑ q : Fin 32768 × Fin 14 × Fin 14, cv x w q.1 k q.2.1 q.2.2 : ℝ) : EReal) := by
  unfold total
  rw [← sum_blocks fun b oh ow => cv x w b k oh ow, RealMath.coe_sum]
  refine Finset.sum_congr rfl fun g _ => ?_
  rw [RealMath.coe_sum]
  refine Finset.sum_congr rfl fun ow _ => ?_
  rw [RealMath.coe_sum]
  refine Finset.sum_congr rfl fun l _ => ?_
  refine (out3_at (images X g) A 0 ⟨ow * 8 + k, by omega⟩ l).trans ?_
  rw [RealMath.coe_sum]
  refine Finset.sum_congr rfl fun G _ => ?_
  rw [RealMath.coe_sum]
  exact Finset.sum_congr rfl fun oh _ => E_real hX hA _ _ g ⟨G * 128 + l, by omega⟩ k oh ow rfl rfl

/-- The total of the squares of channel `k`. -/
theorem total_squares (hX : IsImages x X) (hA : IsFilters w A) (k : Fin 8) :
    total (squares A X) k = ((∑ q : Fin 32768 × Fin 14 × Fin 14, cv x w q.1 k q.2.1 q.2.2 * cv x w q.1 k q.2.1 q.2.2 : ℝ) : EReal) := by
  unfold total
  rw [← sum_blocks fun b oh ow => cv x w b k oh ow * cv x w b k oh ow, RealMath.coe_sum]
  refine Finset.sum_congr rfl fun g _ => ?_
  rw [RealMath.coe_sum]
  refine Finset.sum_congr rfl fun ow _ => ?_
  rw [RealMath.coe_sum]
  refine Finset.sum_congr rfl fun l _ => ?_
  refine (out4_at (images X g) A 0 ⟨ow * 8 + k, by omega⟩ l).trans ?_
  rw [RealMath.coe_sum]
  refine Finset.sum_congr rfl fun G _ => ?_
  rw [RealMath.coe_sum]
  refine Finset.sum_congr rfl fun oh _ => ?_
  have e := E_real hX hA (o := 56 * oh) (p := ow * 8 + k) (by omega) (by omega) g ⟨G * 128 + l, by omega⟩ k oh ow rfl rfl
  exact (congrArg₂ (· * ·) e e).trans (EReal.coe_mul _ _).symm

/-- The convolution as a function of image, row and column. -/
def chan (x : SX.Idx → ℝ) (w : SW.Idx → ℝ) (k : Fin 8) (q : Fin 32768 × Fin 14 × Fin 14) : ℝ := cv x w q.1 k q.2.1 q.2.2

/-- The mean of channel `k`. -/
def mu (x : SX.Idx → ℝ) (w : SW.Idx → ℝ) (k : Fin 8) : ℝ := (∑ q, chan x w k q) / 6422528

/-- The variance of channel `k`. -/
def vr (x : SX.Idx → ℝ) (w : SW.Idx → ℝ) (k : Fin 8) : ℝ := (∑ q, chan x w k q * chan x w k q) / 6422528 - mu x w k * mu x w k

theorem mean_sums (hX : IsImages x X) (hA : IsFilters w A) (k : Fin 8) : mean (sums A X) k = ((mu x w k : ℝ) : EReal) := by
  unfold mean
  rw [total_sums hX hA, ofBits_count, RealMath.div_coe_coe _ _ (by norm_num)]
  rfl

theorem mean_squares (hX : IsImages x X) (hA : IsFilters w A) (k : Fin 8) :
    mean (squares A X) k = (((∑ q, chan x w k q * chan x w k q) / 6422528 : ℝ) : EReal) := by
  unfold mean
  rw [total_squares hX hA, ofBits_count, RealMath.div_coe_coe _ _ (by norm_num)]
  rfl

/-- The scale of channel `k`. -/
theorem scale_real (hX : IsImages x X) (hA : IsFilters w A) (g : FVec Ideal S8 .f32) (k : Fin 8) :
    scale g (sums A X) (squares A X) k = g (ix1 k) * Ideal.rsqrt (((vr x w k : ℝ) : EReal) + Ideal.ofBits .f32 0x3727C5AC#32) := by
  unfold scale
  rw [mean_sums hX hA, mean_squares hX hA, ← EReal.coe_mul, ← EReal.coe_sub]
  rfl

end Cert.KernelIdeal.Value

end
-- ==== Proof.Reference.lean ====
/-
  The reference in stages — the convolution, the mean and variance of each channel, the normalised positive part, the
  pooled maximum, the last product — and each stage read at an index.
-/
module

public import proofs.«01_k».proof.Proof.Gen.ReferenceIdeal.Run
public import proofs.«01_k».proof.Proof.Reductions
public import proofs.«01_k».proof.Proof.Conv
public import Idealize.ShloMosaic.Lib.Pipeline.ValueKit
public import Idealize.ShloMosaic.Lib.Pointwise
public import Idealize.ShloMosaic.Lib.IdealHost

@[expose] public section

set_option maxRecDepth 16384

noncomputable section

namespace Cert.ReferenceIdeal.Read

open Idealize.ShloMosaic Idealize.ShloMosaic.TcCoe Idealize.SL.Sem
open Cert.ReferenceIdeal Cert.ReferenceIdeal.Gen
open Cert.Proof

/-- The convolution with its bias. -/
def conv (x : FVec Ideal S32768x1x28x28 .f32) (w : FVec Ideal S8x1x3x3 .f32) (bc : FVec Ideal S8 .f32) : FVec Ideal S32768x8x14x14 .f32 :=
  addf (addf (addf (addf (addf (addf (addf (addf (addf (addf (broadcastInDim S32768x8x14x14 ![] bcast_S_S32768x8x14x14 (constant S_ .f32 0x00000000#32)) (mulf (broadcastInDim S32768x8x14x14 ![0, 1, 2, 3] bcast_S32768x1x14x14_S32768x8x14x14_0_1_2_3 (broadcastInDim S32768x1x14x14 ![0, 2, 3] bcast_S32768x14x14_S32768x1x14x14_0_2_3 (Host.slice S32768x14x14 ![0, 0, 0] ![1, 2, 2] (pad S32768x30x30 ![0, 1, 1] ![0, 1, 1] ![0, 0, 0] (shapeCast _ x shapeCasts_S32768x1x28x28_S32768x28x28) (sitofp .f32 (constantI S_ 32 0#32)) pads_S32768x28x28_S32768x30x30_000_110_110 h_S_) slicesBy_S32768x30x30_S32768x14x14_0s1_0s2_0s2))) (broadcastInDim S32768x8x14x14 ![0, 1, 2, 3] bcast_S1x8x1x1_S32768x8x14x14_0_1_2_3 (broadcastInDim S1x8x1x1 ![1] bcast_S8_S1x8x1x1_1 (shapeCast _ (extractStridedSlice S8x1x1x1 ![0, 0, 0, 0] w slices_S8x1x3x3_S8x1x1x1_0_0_0_0) shapeCasts_S8x1x1x1_S8))))) (mulf (broadcastInDim S32768x8x14x14 ![0, 1, 2, 3] bcast_S32768x1x14x14_S32768x8x14x14_0_1_2_3 (broadcastInDim S32768x1x14x14 ![0, 2, 3] bcast_S32768x14x14_S32768x1x14x14_0_2_3 (Host.slice S32768x14x14 ![0, 0, 1] ![1, 2, 2] (pad S32768x30x30 ![0, 1, 1] ![0, 1, 1] ![0, 0, 0] (shapeCast _ x shapeCasts_S32768x1x28x28_S32768x28x28) (sitofp .f32 (constantI S_ 32 0#32)) pads_S32768x28x28_S32768x30x30_000_110_110 h_S_) slicesBy_S32768x30x30_S32768x14x14_0s1_0s2_1s2))) (broadcastInDim S32768x8x14x14 ![0, 1, 2, 3] bcast_S1x8x1x1_S32768x8x14x14_0_1_2_3 (broadcastInDim S1x8x1x1 ![1] bcast_S8_S1x8x1x1_1 (shapeCast _ (extractStridedSlice S8x1x1x1 ![0, 0, 0, 1] w slices_S8x1x3x3_S8x1x1x1_0_0_0_1) shapeCasts_S8x1x1x1_S8))))) (mulf (broadcastInDim S32768x8x14x14 ![0, 1, 2, 3] bcast_S32768x1x14x14_S32768x8x14x14_0_1_2_3 (broadcastInDim S32768x1x14x14 ![0, 2, 3] bcast_S32768x14x14_S32768x1x14x14_0_2_3 (Host.slice S32768x14x14 ![0, 0, 2] ![1, 2, 2] (pad S32768x30x30 ![0, 1, 1] ![0, 1, 1] ![0, 0, 0] (shapeCast _ x shapeCasts_S32768x1x28x28_S32768x28x28) (sitofp .f32 (constantI S_ 32 0#32)) pads_S32768x28x28_S32768x30x30_000_110_110 h_S_) slicesBy_S32768x30x30_S32768x14x14_0s1_0s2_2s2))) (broadcastInDim S32768x8x14x14 ![0, 1, 2, 3] bcast_S1x8x1x1_S32768x8x14x14_0_1_2_3 (broadcastInDim S1x8x1x1 ![1] bcast_S8_S1x8x1x1_1 (shapeCast _ (extractStridedSlice S8x1x1x1 ![0, 0, 0, 2] w slices_S8x1x3x3_S8x1x1x1_0_0_0_2) shapeCasts_S8x1x1x1_S8))))) (mulf (broadcastInDim S32768x8x14x14 ![0, 1, 2, 3] bcast_S32768x1x14x14_S32768x8x14x14_0_1_2_3 (broadcastInDim S32768x1x14x14 ![0, 2, 3] bcast_S32768x14x14_S32768x1x14x14_0_2_3 (Host.slice S32768x14x14 ![0, 1, 0] ![1, 2, 2] (pad S32768x30x30 ![0, 1, 1] ![0, 1, 1] ![0, 0, 0] (shapeCast _ x shapeCasts_S32768x1x28x28_S32768x28x28) (sitofp .f32 (constantI S_ 32 0#32)) pads_S32768x28x28_S32768x30x30_000_110_110 h_S_) slicesBy_S32768x30x30_S32768x14x14_0s1_1s2_0s2))) (broadcastInDim S32768x8x14x14 ![0, 1, 2, 3] bcast_S1x8x1x1_S32768x8x14x14_0_1_2_3 (broadcastInDim S1x8x1x1 ![1] bcast_S8_S1x8x1x1_1 (shapeCast _ (extractStridedSlice S8x1x1x1 ![0, 0, 1, 0] w slices_S8x1x3x3_S8x1x1x1_0_0_1_0) shapeCasts_S8x1x1x1_S8))))) (mulf (broadcastInDim S32768x8x14x14 ![0, 1, 2, 3] bcast_S32768x1x14x14_S32768x8x14x14_0_1_2_3 (broadcastInDim S32768x1x14x14 ![0, 2, 3] bcast_S32768x14x14_S32768x1x14x14_0_2_3 (Host.slice S32768x14x14 ![0, 1, 1] ![1, 2, 2] (pad S32768x30x30 ![0, 1, 1] ![0, 1, 1] ![0, 0, 0] (shapeCast _ x shapeCasts_S32768x1x28x28_S32768x28x28) (sitofp .f32 (constantI S_ 32 0#32)) pads_S32768x28x28_S32768x30x30_000_110_110 h_S_) slicesBy_S32768x30x30_S32768x14x14_0s1_1s2_1s2))) (broadcastInDim S32768x8x14x14 ![0, 1, 2, 3] bcast_S1x8x1x1_S32768x8x14x14_0_1_2_3 (broadcastInDim S1x8x1x1 ![1] bcast_S8_S1x8x1x1_1 (shapeCast _ (extractStridedSlice S8x1x1x1 ![0, 0, 1, 1] w slices_S8x1x3x3_S8x1x1x1_0_0_1_1) shapeCasts_S8x1x1x1_S8))))) (mulf (broadcastInDim S32768x8x14x14 ![0, 1, 2, 3] bcast_S32768x1x14x14_S32768x8x14x14_0_1_2_3 (broadcastInDim S32768x1x14x14 ![0, 2, 3] bcast_S32768x14x14_S32768x1x14x14_0_2_3 (Host.slice S32768x14x14 ![0, 1, 2] ![1, 2, 2] (pad S32768x30x30 ![0, 1, 1] ![0, 1, 1] ![0, 0, 0] (shapeCast _ x shapeCasts_S32768x1x28x28_S32768x28x28) (sitofp .f32 (constantI S_ 32 0#32)) pads_S32768x28x28_S32768x30x30_000_110_110 h_S_) slicesBy_S32768x30x30_S32768x14x14_0s1_1s2_2s2))) (broadcastInDim S32768x8x14x14 ![0, 1, 2, 3] bcast_S1x8x1x1_S32768x8x14x14_0_1_2_3 (broadcastInDim S1x8x1x1 ![1] bcast_S8_S1x8x1x1_1 (shapeCast _ (extractStridedSlice S8x1x1x1 ![0, 0, 1, 2] w slices_S8x1x3x3_S8x1x1x1_0_0_1_2) shapeCasts_S8x1x1x1_S8))))) (mulf (broadcastInDim S32768x8x14x14 ![0, 1, 2, 3] bcast_S32768x1x14x14_S32768x8x14x14_0_1_2_3 (broadcastInDim S32768x1x14x14 ![0, 2, 3] bcast_S32768x14x14_S32768x1x14x14_0_2_3 (Host.slice S32768x14x14 ![0, 2, 0] ![1, 2, 2] (pad S32768x30x30 ![0, 1, 1] ![0, 1, 1] ![0, 0, 0] (shapeCast _ x shapeCasts_S32768x1x28x28_S32768x28x28) (sitofp .f32 (constantI S_ 32 0#32)) pads_S32768x28x28_S32768x30x30_000_110_110 h_S_) slicesBy_S32768x30x30_S32768x14x14_0s1_2s2_0s2))) (broadcastInDim S32768x8x14x14 ![0, 1, 2, 3] bcast_S1x8x1x1_S32768x8x14x14_0_1_2_3 (broadcastInDim S1x8x1x1 ![1] bcast_S8_S1x8x1x1_1 (shapeCast _ (extractStridedSlice S8x1x1x1 ![0, 0, 2, 0] w slices_S8x1x3x3_S8x1x1x1_0_0_2_0) shapeCasts_S8x1x1x1_S8))))) (mulf (broadcastInDim S32768x8x14x14 ![0, 1, 2, 3] bcast_S32768x1x14x14_S32768x8x14x14_0_1_2_3 (broadcastInDim S32768x1x14x14 ![0, 2, 3] bcast_S32768x14x14_S32768x1x14x14_0_2_3 (Host.slice S32768x14x14 ![0, 2, 1] ![1, 2, 2] (pad S32768x30x30 ![0, 1, 1] ![0, 1, 1] ![0, 0, 0] (shapeCast _ x shapeCasts_S32768x1x28x28_S32768x28x28) (sitofp .f32 (constantI S_ 32 0#32)) pads_S32768x28x28_S32768x30x30_000_110_110 h_S_) slicesBy_S32768x30x30_S32768x14x14_0s1_2s2_1s2))) (broadcastInDim S32768x8x14x14 ![0, 1, 2, 3] bcast_S1x8x1x1_S32768x8x14x14_0_1_2_3 (broadcastInDim S1x8x1x1 ![1] bcast_S8_S1x8x1x1_1 (shapeCast _ (extractStridedSlice S8x1x1x1 ![0, 0, 2, 1] w slices_S8x1x3x3_S8x1x1x1_0_0_2_1) shapeCasts_S8x1x1x1_S8))))) (mulf (broadcastInDim S32768x8x14x14 ![0, 1, 2, 3] bcast_S32768x1x14x14_S32768x8x14x14_0_1_2_3 (broadcastInDim S32768x1x14x14 ![0, 2, 3] bcast_S32768x14x14_S32768x1x14x14_0_2_3 (Host.slice S32768x14x14 ![0, 2, 2] ![1, 2, 2] (pad S32768x30x30 ![0, 1, 1] ![0, 1, 1] ![0, 0, 0] (shapeCast _ x shapeCasts_S32768x1x28x28_S32768x28x28) (sitofp .f32 (constantI S_ 32 0#32)) pads_S32768x28x28_S32768x30x30_000_110_110 h_S_) slicesBy_S32768x30x30_S32768x14x14_0s1_2s2_2s2))) (broadcastInDim S32768x8x14x14 ![0, 1, 2, 3] bcast_S1x8x1x1_S32768x8x14x14_0_1_2_3 (broadcastInDim S1x8x1x1 ![1] bcast_S8_S1x8x1x1_1 (shapeCast _ (extractStridedSlice S8x1x1x1 ![0, 0, 2, 2] w slices_S8x1x3x3_S8x1x1x1_0_0_2_2) shapeCasts_S8x1x1x1_S8))))) (broadcastInDim S32768x8x14x14 ![0, 1, 2, 3] bcast_S1x8x1x1_S32768x8x14x14_0_1_2_3 (broadcastInDim S1x8x1x1 ![1] bcast_S8_S1x8x1x1_1 bc))

/-- The mean of each channel. -/
def mean (Y : FVec Ideal S32768x8x14x14 .f32) : FVec Ideal S8 .f32 :=
  Host.divf (Host.reduceAdd Y (constant S_ .f32 0x00000000#32) reducesTo_S32768x8x14x14_S8_d0_2_3 h_S_) (broadcastInDim S8 ![] bcast_S_S8 (constant S_ .f32 0x4AC40000#32))

/-- The mean of each channel, laid out for the variance. -/
def mean4 (Y : FVec Ideal S32768x8x14x14 .f32) : FVec Ideal S1x8x1x1 .f32 :=
  Host.divf (broadcastInDim S1x8x1x1 ![1] bcast_S8_S1x8x1x1_1 (Host.reduceAdd Y (constant S_ .f32 0x00000000#32) reducesTo_S32768x8x14x14_S8_d0_2_3 h_S_)) (broadcastInDim S1x8x1x1 ![] bcast_S_S1x8x1x1 (constant S_ .f32 0x4AC40000#32))

/-- The variance of each channel around the mean `M`. -/
def var (Y : FVec Ideal S32768x8x14x14 .f32) (M : FVec Ideal S1x8x1x1 .f32) : FVec Ideal S8 .f32 :=
  select (broadcastInDim S8 ![] bcast_S_S8 (cmpf .ogt (subf (constant S_ .f32 0x4AC40000#32) (sitofp .f32 (constantI S_ 32 0#32)) : FVec Ideal S_ .f32) (constant S_ .f32 0x00000000#32))) (Host.divf (Host.reduceAdd (mulf (subf Y (broadcastInDim S32768x8x14x14 ![0, 1, 2, 3] bcast_S1x8x1x1_S32768x8x14x14_0_1_2_3 M)) (subf Y (broadcastInDim S32768x8x14x14 ![0, 1, 2, 3] bcast_S1x8x1x1_S32768x8x14x14_0_1_2_3 M))) (constant S_ .f32 0x00000000#32) reducesTo_S32768x8x14x14_S8_d0_2_3 h_S_) (broadcastInDim S8 ![] bcast_S_S8 (subf (constant S_ .f32 0x4AC40000#32) (sitofp .f32 (constantI S_ 32 0#32))))) (broadcastInDim S8 ![] bcast_S_S8 (id (constant S_ .f32 0x7FC00000#32)))

/-- The normalised values, scaled, shifted and cut at zero. -/
def act (Y : FVec Ideal S32768x8x14x14 .f32) (M U : FVec Ideal S8 .f32) (g be : FVec Ideal S8 .f32) : FVec Ideal S32768x8x14x14 .f32 :=
  maximumf (addf (mulf (broadcastInDim S32768x8x14x14 ![0, 1, 2, 3] bcast_S1x8x1x1_S32768x8x14x14_0_1_2_3 (broadcastInDim S1x8x1x1 ![1] bcast_S8_S1x8x1x1_1 g)) (mulf (subf Y (broadcastInDim S32768x8x14x14 ![0, 1, 2, 3] bcast_S1x8x1x1_S32768x8x14x14_0_1_2_3 (broadcastInDim S1x8x1x1 ![1] bcast_S8_S1x8x1x1_1 M))) (broadcastInDim S32768x8x14x14 ![0, 1, 2, 3] bcast_S1x8x1x1_S32768x8x14x14_0_1_2_3 (Host.rsqrt (addf (broadcastInDim S1x8x1x1 ![1] bcast_S8_S1x8x1x1_1 U) (broadcastInDim S1x8x1x1 ![] bcast_S_S1x8x1x1 (constant S_ .f32 0x3727C5AC#32))))))) (broadcastInDim S32768x8x14x14 ![0, 1, 2, 3] bcast_S1x8x1x1_S32768x8x14x14_0_1_2_3 (broadcastInDim S1x8x1x1 ![1] bcast_S8_S1x8x1x1_1 be))) (broadcastInDim S32768x8x14x14 ![] bcast_S_S32768x8x14x14 (constant S_ .f32 0x00000000#32))

/-- The maximum over each 2 by 2 window. -/
def pool (Z : FVec Ideal S32768x8x14x14 .f32) : FVec Ideal S32768x8x7x7 .f32 :=
  Host.reduce FloatOps.maximumf (shapeCast S32768x8x7x2x7x2 Z shapeCasts_S32768x8x14x14_S32768x8x7x2x7x2) (constant S_ .f32 0xFF800000#32) reducesTo_S32768x8x7x2x7x2_S32768x8x7x7_d3_5 h_S_

/-- The product with the last weights, with its bias. -/
def out (Q : FVec Ideal S32768x8x7x7 .f32) (wfc : FVec Ideal S10x392 .f32) (bfc : FVec Ideal S10 .f32) : FVec Ideal S32768x10 .f32 :=
  addf (Host.dotGeneral dot_S32768x392_S392x10_S32768x10_1_0_0_1_n_n none (shapeCast S32768x392 Q shapeCasts_S32768x8x7x7_S32768x392) (transpose S392x10 [1, 0] wfc transposes_S10x392_S392x10_1_0)) (broadcastInDim S32768x10 ![0, 1] bcast_S1x10_S32768x10_0_1 (broadcastInDim S1x10 ![1] bcast_S10_S1x10_1 bfc))

/-- The reference's result is its stages in order. -/
theorem res_eq (m : (ℓ : Loc nD τ sig) → Buf (Elt Ideal) ℓ) (c : Dev nD) (x : FVec Ideal S32768x1x28x28 .f32) (w : FVec Ideal S8x1x3x3 .f32)
    (bc g be : FVec Ideal S8 .f32) (wfc : FVec Ideal S10x392 .f32) (bfc : FVec Ideal S10 .f32)
    (h0 : m ((c.tc : Thread nD τ).loc main_arg0) = x) (h1 : m ((c.tc : Thread nD τ).loc main_arg1) = w) (h2 : m ((c.tc : Thread nD τ).loc main_arg2) = bc)
    (h3 : m ((c.tc : Thread nD τ).loc main_arg3) = g) (h4 : m ((c.tc : Thread nD τ).loc main_arg4) = be) (h5 : m ((c.tc : Thread nD τ).loc main_arg5) = wfc)
    (h6 : m ((c.tc : Thread nD τ).loc main_arg6) = bfc) :
    Value.res_main_v114 (F := Ideal) m c = out (pool (act (conv x w bc) (mean (conv x w bc)) (var (conv x w bc) (mean4 (conv x w bc))) g be)) wfc bfc := by
  subst h0 h1 h2 h3 h4 h5 h6
  unfold Value.res_main_v114 out pool act var mean4 mean conv
  rfl

/-- The convolution over real images and filters. -/
theorem conv_at (x : Conv.SX.Idx → ℝ) (w : Conv.SW.Idx → ℝ) (bc : FVec Ideal S8 .f32) (b : Fin 32768) (k : Fin 8) (oh ow : Fin 14) :
    conv (fun i => (x i : EReal)) (fun i => (w i : EReal)) bc (ix4 b k oh ow) = ((Conv.cv x w b k oh ow : ℝ) : EReal) + bc (ix1 k) := by
  have z : (FloatOps.sitofp (F := Ideal) FTy.f32 0#32 : EReal) = 0 := by
    show (((0#32 : BitVec 32).toInt : ℝ) : EReal) = 0
    simp
  pointwise [conv]
  rw [z]
  refine congrArg₂ (· + ·) ?_ rfl
  unfold Conv.cv
  simp only [Fin.sum_univ_three, EReal.coe_add, EReal.coe_mul, ← add_assoc]
  repeat' refine congrArg₂ (· + ·) ?_ ?_
  all_goals refine congrArg₂ (· * ·) ?_ rfl
  all_goals exact Conv.tap x b _ _ _ _ (by dsimp only [Fin.val_zero, Fin.val_one, Fin.val_two]; omega) (fun _ => by dsimp only [Fin.val_zero, Fin.val_one, Fin.val_two]; omega) (fun _ => by dsimp only [Fin.val_zero, Fin.val_one, Fin.val_two]; omega)

theorem mean_at (Y : FVec Ideal S32768x8x14x14 .f32) (k : Fin 8) :
    mean Y (ix1 k) = Ideal.div (∑ b : Fin 32768, ∑ oh : Fin 14, ∑ ow : Fin 14, Y (ix4 b k oh ow)) (Ideal.ofBits .f32 0x4AC40000#32) := by
  pointwise [mean]
  rw [Cert.Proof.Reductions.sum_keep1, zero_add]

theorem mean4_at (Y : FVec Ideal S32768x8x14x14 .f32) (k : Fin 8) :
    mean4 Y (ix4 0 k 0 0) = Ideal.div (∑ b : Fin 32768, ∑ oh : Fin 14, ∑ ow : Fin 14, Y (ix4 b k oh ow)) (Ideal.ofBits .f32 0x4AC40000#32) := by
  pointwise [mean4]
  rw [Cert.Proof.Reductions.sum_keep1, zero_add]

theorem sq_at (Y : FVec Ideal S32768x8x14x14 .f32) (M : FVec Ideal S1x8x1x1 .f32) (b : Fin 32768) (k : Fin 8) (oh ow : Fin 14) :
    mulf (subf Y (broadcastInDim S32768x8x14x14 ![0, 1, 2, 3] bcast_S1x8x1x1_S32768x8x14x14_0_1_2_3 M))
      (subf Y (broadcastInDim S32768x8x14x14 ![0, 1, 2, 3] bcast_S1x8x1x1_S32768x8x14x14_0_1_2_3 M)) (ix4 b k oh ow)
      = (Y (ix4 b k oh ow) - M (ix4 0 k 0 0)) * (Y (ix4 b k oh ow) - M (ix4 0 k 0 0)) := by
  pointwise

/-- The variance of channel `k`: the count is positive, so the guarded value is the quotient. -/
theorem var_at (Y : FVec Ideal S32768x8x14x14 .f32) (M : FVec Ideal S1x8x1x1 .f32) (k : Fin 8) :
    var Y M (ix1 k) = Ideal.div (∑ b : Fin 32768, ∑ oh : Fin 14, ∑ ow : Fin 14, (Y (ix4 b k oh ow) - M (ix4 0 k 0 0)) * (Y (ix4 b k oh ow) - M (ix4 0 k 0 0)))
      (Ideal.ofBits .f32 0x4AC40000#32) := by
  have z : (FloatOps.sitofp (F := Ideal) FTy.f32 0#32 : EReal) = 0 := by
    show (((0#32 : BitVec 32).toInt : ℝ) : EReal) = 0
    simp
  pointwise [var]
  rw [z, sub_zero, if_pos (by rw [Conv.ofBits_count]; exact EReal.coe_pos.2 (by norm_num)), Cert.Proof.Reductions.sum_keep1, zero_add]
  refine congrArg₂ Ideal.div ?_ rfl
  refine Finset.sum_congr rfl fun b _ => Finset.sum_congr rfl fun oh _ => Finset.sum_congr rfl fun ow _ => ?_
  exact sq_at Y M b k oh ow

theorem act_at (Y : FVec Ideal S32768x8x14x14 .f32) (M U g be : FVec Ideal S8 .f32) (b : Fin 32768) (k : Fin 8) (oh ow : Fin 14) :
    act Y M U g be (ix4 b k oh ow)
      = max (g (ix1 k) * ((Y (ix4 b k oh ow) - M (ix1 k)) * Ideal.rsqrt (U (ix1 k) + Ideal.ofBits .f32 0x3727C5AC#32)) + be (ix1 k)) 0 := by
  pointwise [act]

theorem pool_at (Z : FVec Ideal S32768x8x14x14 .f32) (b : Fin 32768) (k : Fin 8) (i j : Fin 7) :
    pool Z (ix4 b k i j) = max (max (Z (ix4 b k ⟨i * 2, by omega⟩ ⟨j * 2, by omega⟩)) (Z (ix4 b k ⟨i * 2 + 1, by omega⟩ ⟨j * 2, by omega⟩)))
      (max (Z (ix4 b k ⟨i * 2, by omega⟩ ⟨j * 2 + 1, by omega⟩)) (Z (ix4 b k ⟨i * 2 + 1, by omega⟩ ⟨j * 2 + 1, by omega⟩))) := by
  refine (Cert.Proof.Reductions.max_window _ _ _ _ Conv.ofBits_neg_inf b k i j).trans ?_
  pointwise

theorem out_at (Q : FVec Ideal S32768x8x7x7 .f32) (wfc : FVec Ideal S10x392 .f32) (bfc : FVec Ideal S10 .f32) (b : Fin 32768) (j : Fin 10) :
    out Q wfc bfc (ix2 b j) = (∑ q : Fin 392, Q (ix4 b ⟨q / 49, by omega⟩ ⟨q / 7 % 7, by omega⟩ ⟨q % 7, by omega⟩) * wfc (ix2 j q)) + bfc (ix1 j) := by
  pointwise [out]

end Cert.ReferenceIdeal.Read

end
-- ==== Proof.Equation.lean ====
/-
  The kernel's result is the reference's result, over real images, filters, biases and slopes that are not negative:
  the mean and variance agree, the affine map commutes with the maximum over a window, and the last product runs over
  the same pooled values in another order.
-/
module

public import proofs.«01_k».proof.Proof.KernelReal
public import proofs.«01_k».proof.Proof.Reference

@[expose] public section

set_option maxRecDepth 16384

noncomputable section

namespace Cert.Proof.Equation

open Idealize.ShloMosaic
open Cert.Proof Cert.Proof.Conv
open Cert.KernelIdeal.Value (IsImages IsFilters chan mu vr scale shift pooled sums squares result)
open Cert.ReferenceIdeal.Read (conv mean4 var act pool out)

/-- The vectors with one entry for each channel. -/
abbrev S8 : Shape := ⟨1, ![8]⟩

/-- A triple sum of reals as one sum over images, rows and columns. -/
theorem sum_triple (f : Fin 32768 → Fin 14 → Fin 14 → ℝ) :
    ∑ b : Fin 32768, ∑ oh : Fin 14, ∑ ow : Fin 14, ((f b oh ow : ℝ) : EReal)
      = ((∑ q : Fin 32768 × Fin 14 × Fin 14, f q.1 q.2.1 q.2.2 : ℝ) : EReal) := by
  simp only [Fintype.sum_prod_type, RealMath.coe_sum]

theorem coe_max (a b : ℝ) : max (a : EReal) (b : EReal) = ((max a b : ℝ) : EReal) :=
  (EReal.coe_strictMono.monotone.map_max).symm

/-- An increasing affine map cut at zero commutes with the maximum of four reals. -/
theorem affine_max_four (s : ℝ) (hs : 0 ≤ s) (t : EReal) (a b c d : ℝ) :
    max ((max (max (a : EReal) (b : EReal)) (max (c : EReal) (d : EReal))) * (s : EReal) + t) 0
      = max (max (max ((a : EReal) * (s : EReal) + t) 0) (max ((b : EReal) * (s : EReal) + t) 0))
        (max (max ((c : EReal) * (s : EReal) + t) 0) (max ((d : EReal) * (s : EReal) + t) 0)) := by
  rw [← RealMath.affine_max s hs t a b, ← RealMath.affine_max s hs t c d, coe_max a b, coe_max c d]
  exact RealMath.affine_max s hs t _ _

variable (x : SX.Idx → ℝ) (w : SW.Idx → ℝ) (bc g : S8.Idx → ℝ)

/-- The reference's convolution with its bias. -/
abbrev Y : FVec Ideal ⟨4, ![32768, 8, 14, 14]⟩ .f32 := conv (fun i => (x i : EReal)) (fun i => (w i : EReal)) (fun i => (bc i : EReal))

theorem Y_at (b : Fin 32768) (k : Fin 8) (oh ow : Fin 14) :
    Y x w bc (ix4 b k oh ow) = ((cv x w b k oh ow + bc (ix1 k) : ℝ) : EReal) := by
  rw [EReal.coe_add]
  exact Cert.ReferenceIdeal.Read.conv_at x w _ b k oh ow

/-- The reference's mean is the mean of the convolution plus the bias. -/
theorem quotient_real (k : Fin 8) :
    Ideal.div (∑ b : Fin 32768, ∑ oh : Fin 14, ∑ ow : Fin 14, Y x w bc (ix4 b k oh ow)) (Ideal.ofBits .f32 0x4AC40000#32)
      = ((mu x w k + bc (ix1 k) : ℝ) : EReal) := by
  simp only [Y_at]
  rw [sum_triple fun b oh ow => cv x w b k oh ow + bc (ix1 k), ofBits_count, RealMath.div_coe_coe _ _ (by norm_num),
    RealMath.mean_shift _ _ _ (by norm_num) card_values]
  rfl

theorem mean_real (k : Fin 8) : Cert.ReferenceIdeal.Read.mean (Y x w bc) (ix1 k) = ((mu x w k + bc (ix1 k) : ℝ) : EReal) :=
  (Cert.ReferenceIdeal.Read.mean_at _ k).trans (quotient_real x w bc k)

theorem mean4_real (k : Fin 8) : mean4 (Y x w bc) (ix4 0 k 0 0) = ((mu x w k + bc (ix1 k) : ℝ) : EReal) :=
  (Cert.ReferenceIdeal.Read.mean4_at _ k).trans (quotient_real x w bc k)

/-- The reference's variance is the mean square less the square of the mean; the bias drops out. -/
theorem var_real (k : Fin 8) : var (Y x w bc) (mean4 (Y x w bc)) (ix1 k) = ((vr x w k : ℝ) : EReal) := by
  refine (Cert.ReferenceIdeal.Read.var_at _ _ k).trans ?_
  simp only [Y_at, mean4_real, ← EReal.coe_sub, ← EReal.coe_mul]
  rw [sum_triple fun b oh ow => ((cv x w b k oh ow + bc (ix1 k)) - (mu x w k + bc (ix1 k))) * ((cv x w b k oh ow + bc (ix1 k)) - (mu x w k + bc (ix1 k))),
    ofBits_count, RealMath.div_coe_coe _ _ (by norm_num)]
  exact congrArg _ (RealMath.var_shift (chan x w k) (bc (ix1 k)) 6422528 (by norm_num) card_values)

/-- The variance plus the small constant has a real reciprocal square root. -/
theorem rsqrt_real (k : Fin 8) : ∃ r : ℝ, 0 ≤ r ∧ Ideal.rsqrt (((vr x w k : ℝ) : EReal) + Ideal.ofBits .f32 0x3727C5AC#32) = (r : EReal) := by
  obtain ⟨e, he, h⟩ := ofBits_eps
  rw [h, ← EReal.coe_add]
  exact RealMath.rsqrt_coe _ (add_pos_of_nonneg_of_pos (RealMath.var_nonneg (chan x w k) 6422528 (by norm_num) card_values) he)

/-- The reference's pooled values. -/
abbrev Q (be : FVec Ideal S8 .f32) : FVec Ideal ⟨4, ![32768, 8, 7, 7]⟩ .f32 :=
  pool (act (Y x w bc) (Cert.ReferenceIdeal.Read.mean (Y x w bc)) (var (Y x w bc) (mean4 (Y x w bc))) (fun i => (g i : EReal)) be)

variable {x w bc g} {A : FVec Ideal ⟨2, ![112, 84]⟩ .f32} {X : FVec Ideal ⟨3, ![784, 1, 32768]⟩ .f32}

/-- One pooled value: the kernel's affine map of the maximum is the reference's maximum of the normalised values. -/
theorem pooled_eq (hg : ∀ i, 0 ≤ g i) (hX : IsImages x X) (hA : IsFilters w A) (be : FVec Ideal S8 .f32) (r : Fin 392) (b : Fin 32768) (k : Fin 8) (i j : Fin 7)
    (hk : (r : ℕ) % 8 = k) (hi : (r : ℕ) / 56 = i) (hj : (r : ℕ) / 8 % 7 = j) :
    max (pooled A X (ix2 r b) * scale (fun i => (g i : EReal)) (sums A X) (squares A X) k + shift (fun i => (g i : EReal)) be (sums A X) (squares A X) k) 0
      = Q x w bc g be (ix4 b k i j) := by
  obtain ⟨ρ, hρ, e⟩ := rsqrt_real x w k
  have a : ∀ oh ow : Fin 14, act (Y x w bc) (Cert.ReferenceIdeal.Read.mean (Y x w bc)) (var (Y x w bc) (mean4 (Y x w bc))) (fun i => (g i : EReal)) be (ix4 b k oh ow)
      = max (((cv x w b k oh ow : ℝ) : EReal) * ((g (ix1 k) * ρ : ℝ) : EReal) + (be (ix1 k) - ((mu x w k : ℝ) : EReal) * ((g (ix1 k) * ρ : ℝ) : EReal))) 0 := by
    intro oh ow
    refine (Cert.ReferenceIdeal.Read.act_at _ _ _ _ _ b k oh ow).trans ?_
    rw [Y_at, mean_real, var_real, e, EReal.coe_add (cv x w b k oh ow), EReal.coe_mul, RealMath.affine_eq]
  refine Eq.trans ?_ (Cert.ReferenceIdeal.Read.pool_at _ b k i j).symm
  rw [a, a, a, a, Cert.KernelIdeal.Value.pooled_real hX hA r b k i j hk hi hj]
  unfold shift
  rw [Cert.KernelIdeal.Value.scale_real hX hA, Cert.KernelIdeal.Value.mean_sums hX hA, e, ← EReal.coe_mul]
  exact affine_max_four _ (mul_nonneg (hg _) hρ) _ _ _ _ _

/-- The kernel's result is the reference's. -/
theorem result_eq (hg : ∀ i, 0 ≤ g i) (hX : IsImages x X) (hA : IsFilters w A) (be : FVec Ideal S8 .f32) (wfc : FVec Ideal ⟨2, ![10, 392]⟩ .f32) (bfc : FVec Ideal ⟨1, ![10]⟩ .f32)
    (b : Fin 32768) (j : Fin 10) :
    result (pooled A X) (sums A X) (squares A X) (fun i => (g i : EReal)) be wfc bfc b j = out (Q x w bc g be) wfc bfc (ix2 b j) := by
  refine Eq.trans ?_ (Cert.ReferenceIdeal.Read.out_at _ _ _ b j).symm
  unfold result
  refine congrArg₂ (· + ·) ?_ rfl
  rw [← sum_pooled fun k i l q => Q x w bc g be (ix4 b k i l) * wfc (ix2 j q)]
  refine Finset.sum_congr rfl fun r _ => ?_
  rw [pooled_eq hg hX hA be r b ⟨r % 8, by omega⟩ ⟨r / 56, by omega⟩ ⟨r / 8 % 7, by omega⟩ rfl rfl rfl]
  exact mul_comm _ _

end Cert.Proof.Equation

end
-- ==== Proof.Tame.lean ====
/-
  What the precondition gives: the images, filters, biases and slopes are arrays of reals, and no slope is negative.
-/
module

public import proofs.«01_k».proof.Pre_tame
public import Idealize.ShloMosaic.Lib.ReduceAll
public import Idealize.ShloMosaic.Lib.Pointwise
public import Idealize.ShloMosaic.Lib.IdealHost

@[expose] public section

set_option maxRecDepth 16384

noncomputable section

namespace Cert.Proof.Tame

open Idealize.ShloMosaic
open Cert.Pre_tame

theorem bcast_S_S32768x1x28x28 : S_.BroadcastsInDim S32768x1x28x28 (![] : Fin 0 → Fin S32768x1x28x28.rank) := by decide
theorem reducesTo_S32768x1x28x28_S_d0_1_2_3 : S32768x1x28x28.ReducesTo [0, 1, 2, 3] S_ := by decide
theorem h_S_ : 0 < S_.numel := by decide
theorem bcast_S_S8x1x3x3 : S_.BroadcastsInDim S8x1x3x3 (![] : Fin 0 → Fin S8x1x3x3.rank) := by decide
theorem reducesTo_S8x1x3x3_S_d0_1_2_3 : S8x1x3x3.ReducesTo [0, 1, 2, 3] S_ := by decide
theorem bcast_S_S8 : S_.BroadcastsInDim S8 (![] : Fin 0 → Fin S8.rank) := by decide
theorem reducesTo_S8_S_d0 : S8.ReducesTo [0] S_ := by decide

/-- The precondition's side conditions. -/
instance facts : Cert.Pre_tame.Facts where
  bcast_S_S32768x1x28x28 := bcast_S_S32768x1x28x28
  reducesTo_S32768x1x28x28_S_d0_1_2_3 := reducesTo_S32768x1x28x28_S_d0_1_2_3
  h_S_ := h_S_
  bcast_S_S8x1x3x3 := bcast_S_S8x1x3x3
  reducesTo_S8x1x3x3_S_d0_1_2_3 := reducesTo_S8x1x3x3_S_d0_1_2_3
  bcast_S_S8 := bcast_S_S8
  reducesTo_S8_S_d0 := reducesTo_S8_S_d0

theorem ofBits_inf : Ideal.ofBits .f32 0x7F800000#32 = ⊤ := by
  simp [Ideal.ofBits, Ideal.ieee]

theorem of_olt {a b : EReal} (h : Ideal.cmp .olt a b = 1#1) : a < b := by
  by_contra hn
  rw [show Ideal.cmp .olt a b = BitVec.ofBool (decide (a < b)) from rfl, decide_eq_false hn] at h
  exact absurd h (by decide)

theorem of_oge {a b : EReal} (h : Ideal.cmp .oge a b = 1#1) : b ≤ a := by
  by_contra hn
  rw [show Ideal.cmp .oge a b = BitVec.ofBool (decide (b ≤ a)) from rfl, decide_eq_false hn] at h
  exact absurd h (by decide)

/-- An extended real whose absolute value is below infinity is a real. -/
theorem finite_of_abs {a : EReal} (h : max a (-a) < ⊤) : ∃ r : ℝ, a = (r : EReal) := by
  induction a with
  | bot => simp at h
  | top => simp at h
  | coe r => exact ⟨r, rfl⟩

/-- An array whose elements all have an absolute value below infinity is an array of reals. -/
theorem finite_array {s : Shape} {axes : List (Fin s.rank)} (hb : S_.BroadcastsInDim s (![] : Fin 0 → Fin s.rank)) (hr : s.ReducesTo axes S_) (a : FVec Ideal s .f32)
    (h : Host.reduce IntOp.andi (cmpf .olt (Host.absf a) (broadcastInDim s ![] hb (constant S_ .f32 0x7F800000#32))) (constantI S_ 1 1#1) hr h_S_ ix0 = 1#1) :
    ∃ r : s.Idx → ℝ, a = fun i => (r i : EReal) := by
  have e : ∀ i, ∃ r : ℝ, a i = (r : EReal) := fun i =>
    finite_of_abs (lt_of_lt_of_eq (of_olt (Host.reduce_andi_all _ _ hr h_S_ ix0 h i)) ofBits_inf)
  choose r hr using e
  exact ⟨r, funext hr⟩

/-- The precondition read: images, filters, biases and slopes are real, and no slope is negative. -/
theorem real {x : FVec Ideal S32768x1x28x28 .f32} {w : FVec Ideal S8x1x3x3 .f32} {bc g be : FVec Ideal S8 .f32} {wfc : FVec Ideal S10x392 .f32} {bfc : FVec Ideal S10 .f32}
    (h : Cert.Pre_tame.fn (F := Ideal) x w bc g be wfc bfc = fun _ => 1#1) :
    (∃ xr : S32768x1x28x28.Idx → ℝ, x = fun i => (xr i : EReal)) ∧ (∃ wr : S8x1x3x3.Idx → ℝ, w = fun i => (wr i : EReal))
      ∧ (∃ br : S8.Idx → ℝ, bc = fun i => (br i : EReal)) ∧ ∃ gr : S8.Idx → ℝ, (∀ i, 0 ≤ gr i) ∧ g = fun i => (gr i : EReal) := by
  have h0 := congrFun h ix0
  obtain ⟨h1, hge⟩ := IntOp.andi_eq_one.1 h0
  obtain ⟨h2, hlt⟩ := IntOp.andi_eq_one.1 h1
  obtain ⟨h3, hb⟩ := IntOp.andi_eq_one.1 h2
  obtain ⟨hx, hw⟩ := IntOp.andi_eq_one.1 h3
  refine ⟨finite_array bcast_S_S32768x1x28x28 reducesTo_S32768x1x28x28_S_d0_1_2_3 x hx, finite_array bcast_S_S8x1x3x3 reducesTo_S8x1x3x3_S_d0_1_2_3 w hw,
    finite_array bcast_S_S8 reducesTo_S8_S_d0 bc hb, ?_⟩
  have e : ∀ i, ∃ r : ℝ, 0 ≤ r ∧ g i = (r : EReal) := fun i => by
    have l : g i < ⊤ := lt_of_lt_of_eq (of_olt (Host.reduce_andi_all _ _ reducesTo_S8_S_d0 h_S_ ix0 hlt i)) ofBits_inf
    have o : (0 : EReal) ≤ g i := le_of_eq_of_le Ideal.ofBits_zero_f32.symm (of_oge (Host.reduce_andi_all _ _ reducesTo_S8_S_d0 h_S_ ix0 hge i))
    refine ⟨(g i).toReal, EReal.toReal_nonneg o, (EReal.coe_toReal l.ne ?_).symm⟩
    intro hbot
    rw [hbot] at o
    exact absurd o (by simp)
  choose r hr using e
  exact ⟨r, fun i => (hr i).1, funext fun i => (hr i).2⟩

end Cert.Proof.Tame

end
-- ==== Proof.Result.lean ====
/-
  From memories that agree on the arguments and meet the precondition, the array the kernel leaves is the array the
  reference leaves.
-/
module

public import proofs.«01_k».proof.Proof.KernelRun
public import proofs.«01_k».proof.Proof.Equation
public import proofs.«01_k».proof.Proof.Tame

@[expose] public section

set_option maxRecDepth 16384

noncomputable section

namespace Cert.Proof.Result

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg) (c : Dev nD)

/-- The kernel's result over the arrays its arguments hold. -/
theorem kernel_eq (xr : Conv.SX.Idx → ℝ) (wr : Conv.SW.Idx → ℝ) (br gr : Equation.S8.Idx → ℝ) (hg : ∀ i, 0 ≤ gr i)
    (h0 : m ((c.tc : Thread nD τ).loc main_arg0) = (fun i => (xr i : EReal) : FVec Ideal S32768x1x28x28 .f32))
    (h1 : m ((c.tc : Thread nD τ).loc main_arg1) = (fun i => (wr i : EReal) : FVec Ideal S8x1x3x3 .f32))
    (h3 : m ((c.tc : Thread nD τ).loc main_arg3) = (fun i => (gr i : EReal) : FVec Ideal S8 .f32)) :
    (Gen.W5 m ρ c (Proc.devRef .tc main_v35) : FVec Ideal S32768x10 .f32)
      = Cert.ReferenceIdeal.Read.out (Equation.Q xr wr br gr (m ((c.tc : Thread nD τ).loc main_arg4))) (m ((c.tc : Thread nD τ).loc main_arg5)) (m ((c.tc : Thread nD τ).loc main_arg6)) := by
  have hX : Value.IsImages xr (Gen.V1 m ρ c main_v1) := fun r z b => (Value.v1_at m ρ c r z b).trans (congrFun h0 _)
  have hA : Value.IsFilters wr (Gen.V1 m ρ c main_v5) := by
    intro p k
    have e := Value.v5_at m ρ c p k
    rw [h1] at e
    exact e
  have hi : ∀ (b : Fin 32768) (j : Fin 10), (Gen.W5 m ρ c (Proc.devRef .tc main_v35) : FVec Ideal S32768x10 .f32) (ix2 b j)
      = Cert.ReferenceIdeal.Read.out (Equation.Q xr wr br gr (m ((c.tc : Thread nD τ).loc main_arg4))) (m ((c.tc : Thread nD τ).loc main_arg5)) (m ((c.tc : Thread nD τ).loc main_arg6)) (ix2 b j) := by
    intro b j
    refine (Value.result_at m ρ c b j).trans ?_
    rw [h3]
    exact Equation.result_eq hg hX hA _ _ _ b j
  funext i
  have ei : i = (ix2 (i 0) (i 1) : S32768x10.Idx) := eq_ix2 i
  rw [ei]
  exact hi (i 0) (i 1)

variable (m' : (ℓ : Loc Cert.ReferenceIdeal.nD Cert.ReferenceIdeal.τ Cert.ReferenceIdeal.sig) → Buf (Elt Ideal) ℓ)

/-- The reference's result is the kernel's. -/
theorem value_eq {x : FVec Ideal S32768x1x28x28 .f32} {w : FVec Ideal S8x1x3x3 .f32} {bc g be : FVec Ideal S8 .f32} {wfc : FVec Ideal S10x392 .f32} {bfc : FVec Ideal S10 .f32}
    (hp : Cert.Pre_tame.fn (F := Ideal) x w bc g be wfc bfc = fun _ => 1#1)
    (h0 : m ((c.tc : Thread nD τ).loc main_arg0) = x) (h1 : m ((c.tc : Thread nD τ).loc main_arg1) = w)
    (h3 : m ((c.tc : Thread nD τ).loc main_arg3) = g) (h4 : m ((c.tc : Thread nD τ).loc main_arg4) = be) (h5 : m ((c.tc : Thread nD τ).loc main_arg5) = wfc)
    (h6 : m ((c.tc : Thread nD τ).loc main_arg6) = bfc)
    (k0 : m' ((c.tc : Thread Cert.ReferenceIdeal.nD Cert.ReferenceIdeal.τ).loc Cert.ReferenceIdeal.main_arg0) = x)
    (k1 : m' ((c.tc : Thread Cert.ReferenceIdeal.nD Cert.ReferenceIdeal.τ).loc Cert.ReferenceIdeal.main_arg1) = w)
    (k2 : m' ((c.tc : Thread Cert.ReferenceIdeal.nD Cert.ReferenceIdeal.τ).loc Cert.ReferenceIdeal.main_arg2) = bc)
    (k3 : m' ((c.tc : Thread Cert.ReferenceIdeal.nD Cert.ReferenceIdeal.τ).loc Cert.ReferenceIdeal.main_arg3) = g)
    (k4 : m' ((c.tc : Thread Cert.ReferenceIdeal.nD Cert.ReferenceIdeal.τ).loc Cert.ReferenceIdeal.main_arg4) = be)
    (k5 : m' ((c.tc : Thread Cert.ReferenceIdeal.nD Cert.ReferenceIdeal.τ).loc Cert.ReferenceIdeal.main_arg5) = wfc)
    (k6 : m' ((c.tc : Thread Cert.ReferenceIdeal.nD Cert.ReferenceIdeal.τ).loc Cert.ReferenceIdeal.main_arg6) = bfc) :
    Cert.ReferenceIdeal.Value.res_main_v114 (F := Ideal) m' c = (Gen.W5 m ρ c (Proc.devRef .tc main_v35) : FVec Ideal S32768x10 .f32) := by
  obtain ⟨⟨xr, rfl⟩, ⟨wr, rfl⟩, ⟨br, rfl⟩, gr, hg, rfl⟩ := Tame.real hp
  refine (Cert.ReferenceIdeal.Read.res_eq m' c _ _ _ _ _ _ _ k0 k1 k2 k3 k4 k5 k6).trans ?_
  rw [kernel_eq m ρ c xr wr br gr hg h0 h1 h3, h4, h5, h6]

end Cert.Proof.Result

end
-- ==== Proof.lean ====
/-
  The assembly: the three frames are the generated ones, the idealization rewrites nothing, and the value claim puts
  the kernel's run and the reference's run beside the equality of the arrays they leave.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Result
public import Idealize.ShloMosaic.Adequacy
public import Idealize.ShloMosaic.Init

@[expose] public section

noncomputable section

namespace Cert.Proof

open Idealize.ShloMosaic Idealize.SL.Sem

/-- The reference ends with its arguments unchanged and every counter at zero: it declares no semaphore. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The kernel's result is the reference's. -/
theorem algebraic : Cert.algebraic_KernelIdeal_ReferenceIdeal_pre_tame := by
  intro m g m' g' hpre hagree
  refine ⟨fun c => Cert.KernelIdeal.Gen.W5 m g c (Proc.devRef .tc Cert.KernelIdeal.main_v35), Cert.KernelIdeal.Value.run_out m g, ?_⟩
  refine (θ_run Cert.ReferenceIdeal.defs _ _).mono (fun r h c => ⟨(h c).1.trans ?_, (h c).2⟩) (Cert.ReferenceIdeal.Value.run (F := Ideal) m' g')
  obtain ⟨k0, k1, k2, k3, k4, k5, k6⟩ := hagree c
  exact Result.value_eq m g c m' (hpre c) rfl rfl rfl rfl rfl rfl k0 k1 k2 k3 k4 k5 k6

/-- Everything claimed. -/
theorem claim : Cert.Claim := ⟨Cert.Kernel.Gen.facts, Cert.KernelIdeal.Gen.facts, Cert.ReferenceIdeal.Gen.facts, Tame.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial, trivial, algebraic⟩

end Cert.Proof

end
